-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_v46) = v3 c
          ∧ r.2.mem ((c.tc : Thread Cert.Reference3Ideal.nD Cert.Reference3Ideal.τ).loc Cert.Reference3Ideal.main_v48) = v4 c
          ∧ r.2.mem ((c.tc : Thread Cert.Reference3Ideal.nD Cert.Reference3Ideal.τ).loc Cert.Reference3Ideal.main_v50) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x2048x2048 : Shape := ⟨3, ![4, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S8192x2048 : Shape := ⟨2, ![8192, 2048]⟩
abbrev S2048 : Shape := ⟨1, ![2048]⟩
abbrev S512x2048 : Shape := ⟨2, ![512, 2048]⟩
abbrev S2048x1024 : Shape := ⟨2, ![2048, 1024]⟩
abbrev S1024x2048 : Shape := ⟨2, ![1024, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩
abbrev S128x2048 : Shape := ⟨2, ![128, 2048]⟩
abbrev S128x1 : Shape := ⟨2, ![128, 1]⟩

abbrev nBuf : Space → Nat
  | .hbm => 18
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S8192x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c10_i32 : BitVec 32 := 10#32
  let c0_i32_0 : BitVec 32 := 0#32
  ![c0_i32.toNat, c10_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c10_i32 : BitVec 32 := 10#32
  let c0_i32_0 : BitVec 32 := 0#32
  ![c0_i32.toNat, c10_i32.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4x2048x2048 : Shape := ⟨3, ![4, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S5632x2048 : Shape := ⟨2, ![5632, 2048]⟩
abbrev S8192x5632 : Shape := ⟨2, ![8192, 5632]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x2048, .f32⟩
  | .hbm, ⟨40, _⟩ => ⟨S2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel2.lean ====
abbrev S4x2048x2048 : Shape := ⟨3, ![4, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S8192x2048 : Shape := ⟨2, ![8192, 2048]⟩
abbrev S2048 : Shape := ⟨1, ![2048]⟩
abbrev S7168x2048 : Shape := ⟨2, ![7168, 2048]⟩
abbrev S512x2048 : Shape := ⟨2, ![512, 2048]⟩
abbrev S2048x1024 : Shape := ⟨2, ![2048, 1024]⟩
abbrev S1024x2048 : Shape := ⟨2, ![1024, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩
abbrev S128x2048 : Shape := ⟨2, ![128, 2048]⟩
abbrev S128x1 : Shape := ⟨2, ![128, 1]⟩

abbrev nBuf : Space → Nat
  | .hbm => 18
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S8192x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S7168x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![14, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c10_i32 : BitVec 32 := 10#32
  let c0_i32_0 : BitVec 32 := 0#32
  ![c0_i32.toNat, c10_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c10_i32 : BitVec 32 := 10#32
  let c0_i32_0 : BitVec 32 := 0#32
  ![c0_i32.toNat, c10_i32.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S4x2048x2048 : Shape := ⟨3, ![4, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S5632x2048 : Shape := ⟨2, ![5632, 2048]⟩
abbrev S8192x5632 : Shape := ⟨2, ![8192, 5632]⟩
abbrev S7168x2048 : Shape := ⟨2, ![7168, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x2048, .f32⟩
  | .hbm, ⟨40, _⟩ => ⟨S2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S7168x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel3.lean ====
abbrev S4x2048x2048 : Shape := ⟨3, ![4, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x2048x4096 : Shape := ⟨3, ![1, 2048, 4096]⟩
abbrev S1x1024x1024 : Shape := ⟨3, ![1, 1024, 1024]⟩
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S2048x4096 : Shape := ⟨2, ![2048, 4096]⟩
abbrev S1024x1024 : Shape := ⟨2, ![1024, 1024]⟩
abbrev S1024x2048 : Shape := ⟨2, ![1024, 2048]⟩
abbrev S2048x256 : Shape := ⟨2, ![2048, 256]⟩
abbrev S256x2048 : Shape := ⟨2, ![256, 2048]⟩
abbrev S128x4096 : Shape := ⟨2, ![128, 4096]⟩
abbrev S64x1024 : Shape := ⟨2, ![64, 1024]⟩
abbrev S1024 : Shape := ⟨1, ![1024]⟩
abbrev S1024x1 : Shape := ⟨2, ![1024, 1]⟩
abbrev S1024x256 : Shape := ⟨2, ![1024, 256]⟩
abbrev S128x2048 : Shape := ⟨2, ![128, 2048]⟩
abbrev S128x1 : Shape := ⟨2, ![128, 1]⟩

abbrev nBuf : Space → Nat
  | .hbm => 24
  | .vmem => 26
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S1x2048x4096, .f32⟩
  | .hbm, ⟨7, _⟩ => ⟨S1x1024x1024, .f32⟩
  | .hbm, ⟨8, _⟩ => ⟨S8192x2048, .f32⟩
  | .hbm, ⟨9, _⟩ => ⟨S2048, .f32⟩
  | .hbm, ⟨10, _⟩ => ⟨S1x2048, .f32⟩
  | .hbm, ⟨11, _⟩ => ⟨S2048x5632, .f32⟩
  | .hbm, ⟨12, _⟩ => ⟨S2048x5632, .f32⟩
  | .hbm, ⟨13, _⟩ => ⟨S5632x2048, .f32⟩
  | .hbm, ⟨14, _⟩ => ⟨S2048, .f32⟩
  | .hbm, ⟨15, _⟩ => ⟨S1x2048, .f32⟩
  | .hbm, ⟨16, _⟩ => ⟨S2048x4096, .f32⟩
  | .hbm, ⟨17, _⟩ => ⟨S1024x1024, .f32⟩
  | .hbm, ⟨18, _⟩ => ⟨S1024x2048, .f32⟩
  | .hbm, ⟨19, _⟩ => ⟨S2048x5632, .bf16⟩
  | .hbm, ⟨20, _⟩ => ⟨S2048x5632, .bf16⟩
  | .hbm, ⟨21, _⟩ => ⟨S5632x2048, .bf16⟩
  | .hbm, ⟨22, _⟩ => ⟨S2048x4096, .bf16⟩
  | .hbm, ⟨23, _⟩ => ⟨S1024x1024, .bf16⟩
  | .local _ .vmem, ⟨0, _⟩ => ⟨S1024x2048, .f32⟩
  | .local _ .vmem, ⟨1, _⟩ => ⟨S1x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S128x4096, .f32⟩
  | .local _ .vmem, ⟨10, _⟩ => ⟨S128x4096, .f32⟩
  | .local _ .vmem, ⟨11, _⟩ => ⟨S64x1024, .f32⟩
  | .local _ .vmem, ⟨12, _⟩ => ⟨S64x1024, .f32⟩
  | .local _ .vmem, ⟨13, _⟩ => ⟨S1024x2048, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S256x2048, .bf16⟩
  | .local _ .vmem, ⟨19, _⟩ => ⟨S256x2048, .bf16⟩
  | .local _ .vmem, ⟨20, _⟩ => ⟨S128x4096, .bf16⟩
  | .local _ .vmem, ⟨21, _⟩ => ⟨S128x4096, .bf16⟩
  | .local _ .vmem, ⟨22, _⟩ => ⟨S64x1024, .bf16⟩
  | .local _ .vmem, ⟨23, _⟩ => ⟨S64x1024, .bf16⟩
  | .local _ .vmem, ⟨24, _⟩ => ⟨S1024x2048, .bf16⟩
  | .local _ .vmem, ⟨25, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![22], ![false]⟩

def k0_cond4 (i : grid0.Coords) : BitVec 1 :=
  let arg0 : BitVec 32 := BitVec.ofNat 32 (i 0).val
  let c21_i32 : BitVec 32 := 21#32
  let v34 : BitVec 1 := Scalar.cmpi .eq arg0 c21_i32
  let v35 : BitVec 32 := Scalar.extui v34
  let c0_i32_23 : BitVec 32 := 0#32
  let v36 : BitVec 1 := Scalar.cmpi .ne v35 c0_i32_23
  v36

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .slt arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4x2048x2048 : Shape := ⟨3, ![4, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x2048x4096 : Shape := ⟨3, ![1, 2048, 4096]⟩
abbrev S1x1024x1024 : Shape := ⟨3, ![1, 1024, 1024]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S5632x2048 : Shape := ⟨2, ![5632, 2048]⟩
abbrev S8192x5632 : Shape := ⟨2, ![8192, 5632]⟩
abbrev S1024x2048 : Shape := ⟨2, ![1024, 2048]⟩
abbrev S2048x4096 : Shape := ⟨2, ![2048, 4096]⟩
abbrev S1024x1024 : Shape := ⟨2, ![1024, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S1x2048x4096, .f32⟩
  | .hbm, ⟨7, _⟩ => ⟨S1x1024x1024, .f32⟩
  | .hbm, ⟨8, _⟩ => ⟨S8192x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S2048x5632, .f32⟩
  | .hbm, ⟨27, _⟩ => ⟨S2048x5632, .f32⟩
  | .hbm, ⟨28, _⟩ => ⟨S5632x2048, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x2048, .f32⟩
  | .hbm, ⟨42, _⟩ => ⟨S2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S1024x2048, .f32⟩
  | .hbm, ⟨64, _⟩ => ⟨S2048x5632, .f32⟩
  | .hbm, ⟨65, _⟩ => ⟨S2048x5632, .bf16⟩
  | .hbm, ⟨66, _⟩ => ⟨S2048x5632, .f32⟩
  | .hbm, ⟨67, _⟩ => ⟨S2048x5632, .bf16⟩
  | .hbm, ⟨68, _⟩ => ⟨S5632x2048, .f32⟩
  | .hbm, ⟨69, _⟩ => ⟨S5632x2048, .bf16⟩
  | .hbm, ⟨70, _⟩ => ⟨S2048x4096, .f32⟩
  | .hbm, ⟨71, _⟩ => ⟨S2048x4096, .bf16⟩
  | .hbm, ⟨72, _⟩ => ⟨S1024x1024, .f32⟩
  | .hbm, ⟨73, _⟩ => ⟨S1024x1024, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Kernel4.lean ====
abbrev S1024x2048 : Shape := ⟨2, ![1024, 2048]⟩
abbrev S7168x2048 : Shape := ⟨2, ![7168, 2048]⟩
abbrev S1x2048 : Shape := ⟨2, ![1, 2048]⟩
abbrev S1x2048x4096 : Shape := ⟨3, ![1, 2048, 4096]⟩
abbrev S2048 : Shape := ⟨1, ![2048]⟩
abbrev S2048x4096 : Shape := ⟨2, ![2048, 4096]⟩
abbrev S8192x3072 : Shape := ⟨2, ![8192, 3072]⟩
abbrev S8192x1024 : Shape := ⟨2, ![8192, 1024]⟩
abbrev S512x2048 : Shape := ⟨2, ![512, 2048]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩

abbrev nBuf : Space → Nat
  | .hbm => 10
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S7168x2048, .f32⟩
  | .hbm, ⟨2, _⟩ => ⟨S1x2048, .f32⟩
  | .hbm, ⟨3, _⟩ => ⟨S1x2048x4096, .f32⟩
  | .hbm, ⟨4, _⟩ => ⟨S2048, .f32⟩
  | .hbm, ⟨5, _⟩ => ⟨S1x2048, .f32⟩
  | .hbm, ⟨6, _⟩ => ⟨S2048x4096, .f32⟩
  | .hbm, ⟨7, _⟩ => ⟨S2048x4096, .bf16⟩
  | .hbm, ⟨8, _⟩ => ⟨S8192x3072, .bf16⟩
  | .hbm, ⟨9, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x4096, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S1024x2048 : Shape := ⟨2, ![1024, 2048]⟩
abbrev S7168x2048 : Shape := ⟨2, ![7168, 2048]⟩
abbrev S1x2048 : Shape := ⟨2, ![1, 2048]⟩
abbrev S1x2048x4096 : Shape := ⟨3, ![1, 2048, 4096]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x4096 : Shape := ⟨2, ![2048, 4096]⟩
abbrev S8192x4096 : Shape := ⟨2, ![8192, 4096]⟩
abbrev S8192x1024 : Shape := ⟨2, ![8192, 1024]⟩
abbrev S8192x3072 : Shape := ⟨2, ![8192, 3072]⟩

abbrev nBuf : Space → Nat
  | .hbm => 32
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S7168x2048, .f32⟩
  | .hbm, ⟨2, _⟩ => ⟨S1x2048, .f32⟩
  | .hbm, ⟨3, _⟩ => ⟨S1x2048x4096, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x4096, .f32⟩
  | .hbm, ⟨23, _⟩ => ⟨S8192x4096, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x3072, .f32⟩
  | .hbm, ⟨30, _⟩ => ⟨S8192x3072, .bf16⟩
  | .hbm, ⟨31, _⟩ => ⟨S8192x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S8192x1024 : Shape := ⟨2, ![8192, 1024]⟩
abbrev S1x2048x2048 : Shape := ⟨3, ![1, 2048, 2048]⟩
abbrev S1024x2048 : Shape := ⟨2, ![1024, 2048]⟩
abbrev S7168x2048 : Shape := ⟨2, ![7168, 2048]⟩
abbrev S1x2048 : Shape := ⟨2, ![1, 2048]⟩
abbrev S2048x2048 : Shape := ⟨2, ![2048, 2048]⟩
abbrev S2048 : Shape := ⟨1, ![2048]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x2048x2048, .f32⟩
  | .hbm, ⟨3, _⟩ => ⟨S1024x2048, .f32⟩
  | .hbm, ⟨4, _⟩ => ⟨S7168x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S1x2048, .f32⟩
  | .hbm, ⟨10, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x1024 : Shape := ⟨2, ![8192, 1024]⟩
abbrev S1x2048x2048 : Shape := ⟨3, ![1, 2048, 2048]⟩
abbrev S1024x2048 : Shape := ⟨2, ![1024, 2048]⟩
abbrev S7168x2048 : Shape := ⟨2, ![7168, 2048]⟩
abbrev S1x2048 : Shape := ⟨2, ![1, 2048]⟩
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x2048x2048, .f32⟩
  | .hbm, ⟨3, _⟩ => ⟨S1024x2048, .f32⟩
  | .hbm, ⟨4, _⟩ => ⟨S7168x2048, .f32⟩
  | .hbm, ⟨5, _⟩ => ⟨S1x2048, .f32⟩
  | .hbm, ⟨6, _⟩ => ⟨S8192x1024, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Swiglu.lean ====
/-
  The gated feed-forward block of the layer as a function on the extended reals, one row at a time, and the sums a
  tiled evaluation of it takes apart: the hidden axis of 5632 columns is visited as a last stretch of 512 columns and
  five chunks of 1024, each chunk as four strips of 256, or as 22 strips in order. Nothing here mentions a program.
-/
module

public import Idealize.ShloMosaic.PureOps.Ideal
public import Idealize.ShloMosaic.PureOps.Ideal.Laws
public import Idealize.ShloMosaic.Lib.Pointwise

@[expose] public section

noncomputable section

namespace Cert.Swiglu

open Idealize.ShloMosaic
open scoped BigOperators

/-- The scale of a row of 2048 entries: the reciprocal square root of its mean square plus the printed epsilon. -/
def scale (x : Fin 2048 → EReal) : EReal :=
  Ideal.rsqrt (Ideal.div (∑ k, x k * x k) (Ideal.ofBits .f32 0x45000000#32) + Ideal.ofBits .f32 0x358637BD#32)

/-- A row divided by its root mean square and multiplied by a gain. -/
def norm (x g : Fin 2048 → EReal) (k : Fin 2048) : EReal := x k * scale x * g k

/-- One hidden unit of the gated block: the gate's inner product times its logistic, times the other inner product. -/
def unit (a G U : Fin 2048 → EReal) : EReal :=
  (∑ k, a k * G k) * Ideal.logistic (∑ k, a k * G k) * ∑ k, a k * U k

/-- The gated block of a normalised row `a`, output column by output column. -/
def hidden (a : Fin 2048 → EReal) (G U : Fin 5632 → Fin 2048 → EReal) (D : Fin 5632 → Fin 2048 → EReal) (q : Fin 2048) : EReal :=
  ∑ j, unit a (G j) (U j) * D j q

/-- The whole branch on one row: normalise, gate, normalise again, add half of it to the row. -/
def branch (x pre post : Fin 2048 → EReal) (G U D : Fin 5632 → Fin 2048 → EReal) (q : Fin 2048) : EReal :=
  x q + hidden (norm x pre) G U D q * scale (hidden (norm x pre) G U D) * (Ideal.ofBits .f32 0x3F000000#32 * post q)

/-- The summand at hidden column `j`, extended by zero past the last column. -/
def termN (a : Fin 2048 → EReal) (G U D : Fin 5632 → Fin 2048 → EReal) (q : Fin 2048) (j : ℕ) : EReal :=
  if h : j < 5632 then unit a (G ⟨j, h⟩) (U ⟨j, h⟩) * D ⟨j, h⟩ q else 0

/-- A running sum of the terms below `n`. -/
def below (a : Fin 2048 → EReal) (G U D : Fin 5632 → Fin 2048 → EReal) (q : Fin 2048) (n : ℕ) : EReal :=
  ∑ j ∈ Finset.range n, termN a G U D q j

/-- The terms of the last 512 columns. -/
def tail (a : Fin 2048 → EReal) (G U D : Fin 5632 → Fin 2048 → EReal) (q : Fin 2048) : EReal :=
  ∑ j ∈ Finset.range 512, termN a G U D q (5120 + j)

/-- A strip of 256 consecutive terms. -/
def strip (t : ℕ → EReal) (o : ℕ) : EReal := ∑ j : Fin 256, t (o + j.val)

/-- A strip as a sum over a range. -/
theorem strip_eq (t : ℕ → EReal) (o : ℕ) : strip t o = ∑ j ∈ Finset.range 256, t (o + j) :=
  Fin.sum_univ_eq_sum_range (fun j => t (o + j)) 256

/-- A strip after the first `n` terms makes the first `n + 256`. -/
theorem range_add_256 (t : ℕ → EReal) (n : ℕ) :
    ∑ j ∈ Finset.range (n + 256), t j = (∑ j ∈ Finset.range n, t j) + strip t n := by
  rw [Finset.sum_range_add, strip_eq]

/-- Four strips after the first `n` terms make the first `n + 1024`. -/
theorem range_add_1024 (t : ℕ → EReal) (n : ℕ) :
    ∑ j ∈ Finset.range (n + 1024), t j
      = (∑ j ∈ Finset.range n, t j) + (((strip t n + strip t (n + 256)) + strip t (n + 512)) + strip t (n + 768)) := by
  have e : n + 1024 = n + 256 + 256 + 256 + 256 := rfl
  rw [e, Finset.sum_range_add, Finset.sum_range_add, Finset.sum_range_add, Finset.sum_range_add]
  simp only [strip_eq]
  rw [add_assoc n 256 256, add_assoc n (256 + 256) 256]
  simp only [add_assoc (∑ j ∈ Finset.range n, t j), Nat.reduceAdd]

/-- The tail is two strips. -/
theorem tail_eq (a : Fin 2048 → EReal) (G U D : Fin 5632 → Fin 2048 → EReal) (q : Fin 2048) :
    tail a G U D q = strip (termN a G U D q) 5120 + strip (termN a G U D q) 5376 := by
  unfold tail
  rw [show (512 : ℕ) = 256 + 256 from rfl, Finset.sum_range_add]
  simp only [strip_eq, ← Nat.add_assoc]

/-- The whole sum as a running sum. -/
theorem hidden_eq (a : Fin 2048 → EReal) (G U D : Fin 5632 → Fin 2048 → EReal) (q : Fin 2048) :
    hidden a G U D q = ∑ j ∈ Finset.range 5632, termN a G U D q j := by
  rw [← Fin.sum_univ_eq_sum_range]
  exact Finset.sum_congr rfl fun j _ => by rw [termN, dif_pos j.isLt]

/-- The tail and the first 5120 terms are the whole sum. -/
theorem tail_add_below (a : Fin 2048 → EReal) (G U D : Fin 5632 → Fin 2048 → EReal) (q : Fin 2048) :
    tail a G U D q + below a G U D q 5120 = hidden a G U D q := by
  rw [hidden_eq, show (5632 : ℕ) = 5120 + 512 from rfl, Finset.sum_range_add, add_comm]
  rfl

/-- One more chunk of four strips, added strip by strip to what the tail and the chunks before it left. -/
theorem chunk_step (a : Fin 2048 → EReal) (G U D : Fin 5632 → Fin 2048 → EReal) (q : Fin 2048) (T : EReal) (n : ℕ) :
    (((T + below a G U D q n + strip (termN a G U D q) n) + strip (termN a G U D q) (n + 256))
        + strip (termN a G U D q) (n + 512)) + strip (termN a G U D q) (n + 768)
      = T + below a G U D q (n + 1024) := by
  unfold below
  rw [range_add_1024]
  simp only [add_assoc]

/-- A strip of printed inner products is a strip of terms, when the operands of its 256 columns are those columns. -/
theorem strip_congr (a : Fin 2048 → EReal) (G U D : Fin 5632 → Fin 2048 → EReal) (q : Fin 2048) (o : ℕ) (ho : o + 256 ≤ 5632)
    (g u : Fin 256 → Fin 2048 → EReal) (d : Fin 256 → EReal)
    (hg : ∀ (j : Fin 256) k, g j k = G ⟨o + j.val, by omega⟩ k) (hu : ∀ (j : Fin 256) k, u j k = U ⟨o + j.val, by omega⟩ k)
    (hd : ∀ j : Fin 256, d j = D ⟨o + j.val, by omega⟩ q) :
    (∑ j, unit a (g j) (u j) * d j) = strip (termN a G U D q) o := by
  refine Finset.sum_congr rfl fun j _ => ?_
  have hj : o + j.val < 5632 := by omega
  rw [termN, dif_pos hj, hd j, show g j = G ⟨o + j.val, hj⟩ from funext (hg j), show u j = U ⟨o + j.val, hj⟩ from funext (hu j)]

end Cert.Swiglu

end
-- ==== Proof.Ffn2Blocks.lean ====
/-
  What the windows of the second feed-forward call hold at a grid point, entry by entry, as entries of the arrays the
  call is given.
-/
module

public import proofs.«01_k».proof.Proof.Swiglu
public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384

noncomputable section

namespace Cert.KernelIdeal.Blocks

open Cert Cert.KernelIdeal Cert.KernelIdeal.Gen Idealize.ShloMosaic Idealize.ShloMosaic.TcCoe Idealize.SL.Sem

variable (m : (ℓ : Loc nD τ sig) → Buf (Elt Ideal) ℓ) (c : Dev nD)

/-- The rows the call works on. -/
def X : Vec Ideal S8192x2048 .f32 := shapeCast S8192x2048 (m ((c : Thread nD τ).loc main_arg0)) shapeCasts_S4x2048x2048_S8192x2048
/-- The gate's weights. -/
def G : Vec Ideal S2048x5632 .f32 := shapeCast S2048x5632 (m ((c : Thread nD τ).loc main_arg2)) shapeCasts_S1x2048x5632_S2048x5632
/-- The other factor's weights. -/
def U : Vec Ideal S2048x5632 .f32 := shapeCast S2048x5632 (m ((c : Thread nD τ).loc main_arg3)) shapeCasts_S1x2048x5632_S2048x5632
/-- The weights back to the model's width. -/
def D : Vec Ideal S5632x2048 .f32 := shapeCast S5632x2048 (m ((c : Thread nD τ).loc main_arg4)) shapeCasts_S1x5632x2048_S5632x2048

/-- The gain before the block. -/
def pre (k : Fin 2048) : EReal := (shapeCast S2048 (m ((c : Thread nD τ).loc main_arg1)) shapeCasts_S1x2048_S2048 : Vec Ideal S2048 .f32) (ix1 k)
/-- The gain after the block. -/
def post (k : Fin 2048) : EReal := (shapeCast S2048 (m ((c : Thread nD τ).loc main_arg5)) shapeCasts_S1x2048_S2048 : Vec Ideal S2048 .f32) (ix1 k)

/-- The region reads the rows as they are given. -/
theorem V_v6 : V m c main_v6 = X m c := rfl
/-- The cast of the gate's weights changes nothing. -/
theorem V_v1 (y : S2048x5632.Idx) : V m c main_v1 y = G m c y := rfl
/-- The cast of the other factor's weights changes nothing. -/
theorem V_v3 (y : S2048x5632.Idx) : V m c main_v3 y = U m c y := rfl
/-- The cast of the weights back changes nothing. -/
theorem V_v5 (y : S5632x2048.Idx) : V m c main_v5 y = D m c y := rfl
/-- The gain before the block, laid out as a row. -/
theorem V_v8 (k : Fin 2048) : (V m c main_v8 : Vec Ideal S1x2048 .f32) (ix2 0 k) = pre m c k := by
  show (shapeCast S1x2048 (shapeCast S2048 (m ((c : Thread nD τ).loc main_arg1)) shapeCasts_S1x2048_S2048 : Vec Ideal S2048 .f32) shapeCasts_S2048_S1x2048 : Vec Ideal S1x2048 .f32) (ix2 0 k) = pre m c k
  unfold pre
  pointwise
/-- The gain after the block, laid out as a row. -/
theorem V_v10 (k : Fin 2048) : (V m c main_v10 : Vec Ideal S1x2048 .f32) (ix2 0 k) = post m c k := by
  show (shapeCast S1x2048 (shapeCast S2048 (m ((c : Thread nD τ).loc main_arg5)) shapeCasts_S1x2048_S2048 : Vec Ideal S2048 .f32) shapeCasts_S2048_S1x2048 : Vec Ideal S1x2048 .f32) (ix2 0 k) = post m c k
  unfold post
  pointwise

/-- Window 0 moves with the row block. -/
theorem index_0 : ∀ t : Fin cfg0.N, win0_0.index t (0 : Fin 2) = t.val / 5 ∧ win0_0.index t (1 : Fin 2) = 0 :=
  (by decide +kernel : ∀ t : Fin grid0.N, win0_0.index t (0 : Fin 2) = t.val / 5 ∧ win0_0.index t (1 : Fin 2) = 0)
/-- Window 2 moves along the hidden columns. -/
theorem index_2 : ∀ t : Fin cfg0.N, win0_2.index t (0 : Fin 2) = 0 ∧ win0_2.index t (1 : Fin 2) = t.val % 5 :=
  (by decide +kernel : ∀ t : Fin grid0.N, win0_2.index t (0 : Fin 2) = 0 ∧ win0_2.index t (1 : Fin 2) = t.val % 5)
/-- Window 3 moves along the hidden columns. -/
theorem index_3 : ∀ t : Fin cfg0.N, win0_3.index t (0 : Fin 2) = 0 ∧ win0_3.index t (1 : Fin 2) = t.val % 5 :=
  (by decide +kernel : ∀ t : Fin grid0.N, win0_3.index t (0 : Fin 2) = 0 ∧ win0_3.index t (1 : Fin 2) = t.val % 5)
/-- Window 4 moves along the hidden rows. -/
theorem index_4 : ∀ t : Fin cfg0.N, win0_4.index t (0 : Fin 2) = t.val % 5 ∧ win0_4.index t (1 : Fin 2) = 0 :=
  (by decide +kernel : ∀ t : Fin grid0.N, win0_4.index t (0 : Fin 2) = t.val % 5 ∧ win0_4.index t (1 : Fin 2) = 0)
/-- Window 5 stays at the last 512 hidden columns. -/
theorem index_5 : ∀ t : Fin cfg0.N, win0_5.index t (0 : Fin 2) = 0 ∧ win0_5.index t (1 : Fin 2) = 10 :=
  (by decide +kernel : ∀ t : Fin grid0.N, win0_5.index t (0 : Fin 2) = 0 ∧ win0_5.index t (1 : Fin 2) = 10)
/-- Window 6 stays at the last 512 hidden columns. -/
theorem index_6 : ∀ t : Fin cfg0.N, win0_6.index t (0 : Fin 2) = 0 ∧ win0_6.index t (1 : Fin 2) = 10 :=
  (by decide +kernel : ∀ t : Fin grid0.N, win0_6.index t (0 : Fin 2) = 0 ∧ win0_6.index t (1 : Fin 2) = 10)
/-- Window 7 stays at the last 512 hidden rows. -/
theorem index_7 : ∀ t : Fin cfg0.N, win0_7.index t (0 : Fin 2) = 10 ∧ win0_7.index t (1 : Fin 2) = 0 :=
  (by decide +kernel : ∀ t : Fin grid0.N, win0_7.index t (0 : Fin 2) = 10 ∧ win0_7.index t (1 : Fin 2) = 0)
/-- Window 1 stays. -/
theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Window 8 stays. -/
theorem index_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 0 holds 512 rows. -/
theorem blk_0 (t : Fin cfg0.N) (p : Fin 512) (k : Fin 2048) (r : Fin 8192) (hr : r.val = t.val / 5 * 512 + p.val) :
    iblk m c 0 t (ix2 p k) = X m c (ix2 r k) := by
  unfold iblk
  rw [View.read_apply]
  show V m c main_v6 _ = X m c _
  rw [V_v6]
  congr 1
  funext a
  apply Fin.ext
  match a with
  | ⟨0, _⟩ => show win0_0.index t 0 * 512 + 1 * p.val = r.val; rw [(index_0 t).1]; omega
  | ⟨1, _⟩ => show win0_0.index t 1 * 2048 + 1 * k.val = k.val; rw [(index_0 t).2]; omega

/-- Window 1 holds the gain before the block. -/
theorem blk_1 (t : Fin cfg0.N) (k : Fin 2048) : iblk m c 1 t (ix2 0 k) = pre m c k := by
  rw [← V_v8]
  unfold iblk
  rw [View.read_apply]
  show V m c main_v8 _ = V m c main_v8 _
  congr 1
  funext a
  apply Fin.ext
  match a with
  | ⟨0, _⟩ => show win0_1.index t 0 * 1 + 1 * 0 = 0; rw [(index_1 t).1]
  | ⟨1, _⟩ => show win0_1.index t 1 * 2048 + 1 * k.val = k.val; rw [(index_1 t).2]; omega

/-- Window 2 holds 1024 of the gate's columns. -/
theorem blk_2 (t : Fin cfg0.N) (k : Fin 2048) (j : Fin 1024) (q : Fin 5632) (hq : q.val = t.val % 5 * 1024 + j.val) :
    X0_2 m c t (ix2 k j) = G m c (ix2 k q) := by
  unfold X0_2 Pipeline.Window.fill
  rw [dif_pos (moved0_2 t _)]
  unfold iblk
  rw [View.read_apply]
  show V m c main_v1 _ = G m c _
  rw [V_v1]
  congr 1
  funext a
  apply Fin.ext
  match a with
  | ⟨0, _⟩ => show win0_2.index t 0 * 2048 + 1 * k.val = k.val; rw [(index_2 t).1]; omega
  | ⟨1, _⟩ => show win0_2.index t 1 * 1024 + 1 * j.val = q.val; rw [(index_2 t).2]; omega

/-- Window 3 holds 1024 of the other factor's columns. -/
theorem blk_3 (t : Fin cfg0.N) (k : Fin 2048) (j : Fin 1024) (q : Fin 5632) (hq : q.val = t.val % 5 * 1024 + j.val) :
    X0_3 m c t (ix2 k j) = U m c (ix2 k q) := by
  unfold X0_3 Pipeline.Window.fill
  rw [dif_pos (moved0_3 t _)]
  unfold iblk
  rw [View.read_apply]
  show V m c main_v3 _ = U m c _
  rw [V_v3]
  congr 1
  funext a
  apply Fin.ext
  match a with
  | ⟨0, _⟩ => show win0_3.index t 0 * 2048 + 1 * k.val = k.val; rw [(index_3 t).1]; omega
  | ⟨1, _⟩ => show win0_3.index t 1 * 1024 + 1 * j.val = q.val; rw [(index_3 t).2]; omega

/-- Window 4 holds 1024 rows of the weights back. -/
theorem blk_4 (t : Fin cfg0.N) (j : Fin 1024) (k : Fin 2048) (q : Fin 5632) (hq : q.val = t.val % 5 * 1024 + j.val) :
    X0_4 m c t (ix2 j k) = D m c (ix2 q k) := by
  unfold X0_4 Pipeline.Window.fill
  rw [dif_pos (moved0_4 t _)]
  unfold iblk
  rw [View.read_apply]
  show V m c main_v5 _ = D m c _
  rw [V_v5]
  congr 1
  funext a
  apply Fin.ext
  match a with
  | ⟨0, _⟩ => show win0_4.index t 0 * 1024 + 1 * j.val = q.val; rw [(index_4 t).1]; omega
  | ⟨1, _⟩ => show win0_4.index t 1 * 2048 + 1 * k.val = k.val; rw [(index_4 t).2]; omega

/-- Window 5 holds the gate's last 512 columns. -/
theorem blk_5 (t : Fin cfg0.N) (k : Fin 2048) (j : Fin 512) (q : Fin 5632) (hq : q.val = 5120 + j.val) :
    iblk m c 5 t (ix2 k j) = G m c (ix2 k q) := by
  unfold iblk
  rw [View.read_apply]
  show V m c main_v1 _ = G m c _
  rw [V_v1]
  congr 1
  funext a
  apply Fin.ext
  match a with
  | ⟨0, _⟩ => show win0_5.index t 0 * 2048 + 1 * k.val = k.val; rw [(index_5 t).1]; omega
  | ⟨1, _⟩ => show win0_5.index t 1 * 512 + 1 * j.val = q.val; rw [(index_5 t).2]; omega

/-- Window 6 holds the other factor's last 512 columns. -/
theorem blk_6 (t : Fin cfg0.N) (k : Fin 2048) (j : Fin 512) (q : Fin 5632) (hq : q.val = 5120 + j.val) :
    iblk m c 6 t (ix2 k j) = U m c (ix2 k q) := by
  unfold iblk
  rw [View.read_apply]
  show V m c main_v3 _ = U m c _
  rw [V_v3]
  congr 1
  funext a
  apply Fin.ext
  match a with
  | ⟨0, _⟩ => show win0_6.index t 0 * 2048 + 1 * k.val = k.val; rw [(index_6 t).1]; omega
  | ⟨1, _⟩ => show win0_6.index t 1 * 512 + 1 * j.val = q.val; rw [(index_6 t).2]; omega

/-- Window 7 holds the last 512 rows of the weights back. -/
theorem blk_7 (t : Fin cfg0.N) (k : Fin 2048) (j : Fin 512) (q : Fin 5632) (hq : q.val = 5120 + j.val) :
    iblk m c 7 t (ix2 j k) = D m c (ix2 q k) := by
  unfold iblk
  rw [View.read_apply]
  show V m c main_v5 _ = D m c _
  rw [V_v5]
  congr 1
  funext a
  apply Fin.ext
  match a with
  | ⟨0, _⟩ => show win0_7.index t 0 * 512 + 1 * j.val = q.val; rw [(index_7 t).1]; omega
  | ⟨1, _⟩ => show win0_7.index t 1 * 2048 + 1 * k.val = k.val; rw [(index_7 t).2]; omega

/-- Window 8 holds the gain after the block. -/
theorem blk_8 (t : Fin cfg0.N) (k : Fin 2048) : iblk m c 8 t (ix2 0 k) = post m c k := by
  rw [← V_v10]
  unfold iblk
  rw [View.read_apply]
  show V m c main_v10 _ = V m c main_v10 _
  congr 1
  funext a
  apply Fin.ext
  match a with
  | ⟨0, _⟩ => show win0_8.index t 0 * 1 + 1 * 0 = 0; rw [(index_8 t).1]
  | ⟨1, _⟩ => show win0_8.index t 1 * 2048 + 1 * k.val = k.val; rw [(index_8 t).2]; omega

end Cert.KernelIdeal.Blocks

end
-- ==== Proof.Ffn2Cases.lean ====
/-
  What each case of the second feed-forward call leaves behind at the ideal instance, read at an index.
-/
module

public import proofs.«01_k».proof.Proof.Swiglu
public import proofs.«01_k».proof.Proof.Gen.KernelIdeal.Frame
public import Idealize.ShloMosaic.Lib.Pipeline.Value
public import Idealize.ShloMosaic.Lib.Pipeline.ReadBack
public import Idealize.ShloMosaic.Lib.Tactic
public import Idealize.ShloMosaic.Lib.Pointwise

@[expose] public section

set_option maxRecDepth 16384

noncomputable section

namespace Cert.KernelIdeal.Cases

open scoped BigOperators
open Cert Cert.KernelIdeal Cert.KernelIdeal.Gen Idealize.ShloMosaic Idealize.ShloMosaic.TcCoe Idealize.SL.Sem

/-- The zero offset, spelt two ways. -/
theorem hz : (![0, 0] : Fin 2 → Nat) = fun _ => 0 := funext fun a => by fin_cases a <;> rfl

/-- A load of the whole block after a store of the whole block reads the store. -/
theorem readCov_whole {sig : RefSig} {κ : Kind} {sp : Space} (v : View sig κ sp S512x2048 .f32) (inb inb' : ∀ a, ![0, 0] a + ![512, 2048] a ≤ S512x2048.size a)
    (Z : S512x2048.Idx → Elt Ideal .f32) (L : List (View.Piece (Elt Ideal) S512x2048 .f32)) :
    v.readCov (⟨Rect.unit ![0, 0] ![512, 2048] inb, Z⟩ :: L) (Rect.unit ![0, 0] ![512, 2048] inb').toLoadRect = Z :=
  (View.readCov_fill v inb Z L _ (fun a => by fin_cases a <;> rfl)).trans (View.ld_unit_zero (S := S512x2048) hz _ _)

/-- A load of a strip of 128 rows after a store of the whole block reads the strip of it. -/
theorem readCov_rows {sig : RefSig} {κ : Kind} {sp : Space} (v : View sig κ sp S512x2048 .f32) (inb : ∀ a, ![0, 0] a + ![512, 2048] a ≤ S512x2048.size a)
    (o : ℕ) (inb' : ∀ a, ![o, 0] a + ![128, 2048] a ≤ S512x2048.size a)
    (Z : S512x2048.Idx → Elt Ideal .f32) (L : List (View.Piece (Elt Ideal) S512x2048 .f32)) :
    v.readCov (⟨Rect.unit ![0, 0] ![512, 2048] inb, Z⟩ :: L) (Rect.unit ![o, 0] ![128, 2048] inb').toLoadRect
      = View.ld Z (Rect.unit ![o, 0] ![128, 2048] inb') :=
  View.readCov_fill v inb Z L _ (fun a => by fin_cases a <;> rfl)

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .bf16) (harg12 : arg12.IsWhole)
  (x0 : Vec Ideal S512x2048 .f32) (x1 : Vec Ideal S1x2048 .f32) (x2 : Vec Ideal S2048x1024 .bf16) (x3 : Vec Ideal S2048x1024 .bf16) (x4 : Vec Ideal S1024x2048 .bf16) (x5 : Vec Ideal S2048x512 .bf16) (x6 : Vec Ideal S2048x512 .bf16) (x7 : Vec Ideal S512x2048 .bf16) (x8 : Vec Ideal S1x2048 .f32) (xo9 : Vec Ideal S512x2048 .f32) (xs0 : Vec Ideal S512x2048 .bf16)

/-- One strip of 256 hidden columns of a chunk: the printed inner products at row `p` and column `q`. -/
def slab (a : Fin 2048 → EReal) {n : ℕ} (g u : FVec Ideal ⟨2, ![2048, n]⟩ .bf16) (d : FVec Ideal ⟨2, ![n, 2048]⟩ .bf16) (q : Fin 2048)
    (o : ℕ) (ho : o + 256 ≤ n) : EReal :=
  ∑ j : Fin 256, Swiglu.unit a (fun k => g (ix2 k ⟨o + j.val, by omega⟩)) (fun k => u (ix2 k ⟨o + j.val, by omega⟩))
    * d (ix2 ⟨o + j.val, by omega⟩ q)

/-- The four strips of a chunk, added one after another to `T`. -/
def chunk (T : EReal) (a : Fin 2048 → EReal) (x2 x3 : Vec Ideal S2048x1024 .bf16) (x4 : Vec Ideal S1024x2048 .bf16) (q : Fin 2048) : EReal :=
  T + slab a x2 x3 x4 q 0 (by decide) + slab a x2 x3 x4 q 256 (by decide) + slab a x2 x3 x4 q 512 (by decide)
    + slab a x2 x3 x4 q 768 (by decide)

/-- A middle chunk adds its four strips to the block it finds. -/
theorem out_B (hc0 : ¬cond0_0 i) (hc1 : cond0_1 i) (hc2 : ¬cond0_2 i) (p : Fin 512) (q : Fin 2048) :
    out0_B_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0 (ix2 p q)
      = chunk (xo9 (ix2 p q)) (fun k => xs0 (ix2 p k)) x2 x3 x4 q := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz]
  unfold_payloads
  pointwise
  simp only [chunk, slab, Swiglu.unit, Nat.zero_add]

/-- The first step of a row block fills the scratch with the normalised rows. -/
theorem sout_A (hc0 : cond0_0 i) (hc1 : ¬cond0_1 i) (hc2 : ¬cond0_2 i) (p : Fin 512) (q : Fin 2048) :
    sout0_A_0 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 (ix2 p q)
      = Swiglu.norm (fun k => x0 (ix2 p k)) (fun k => x1 (ix2 0 k)) q := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz]
  unfold_payloads
  pointwise
  rfl

/-- The normalised rows of a block, as the scratch holds them. -/
def normed (x0 : Vec Ideal S512x2048 .f32) (x1 : Vec Ideal S1x2048 .f32) (p : Fin 512) (k : Fin 2048) : EReal :=
  Swiglu.norm (fun k => x0 (ix2 p k)) (fun k => x1 (ix2 0 k)) k

/-- The first step of a row block leaves the two strips of the last 512 columns, then the first chunk's four. -/
theorem out_A (hc0 : cond0_0 i) (hc1 : ¬cond0_1 i) (hc2 : ¬cond0_2 i) (p : Fin 512) (q : Fin 2048) :
    out0_A_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 (ix2 p q)
      = chunk (slab (normed x0 x1 p) x5 x6 x7 q 0 (by decide) + slab (normed x0 x1 p) x5 x6 x7 q 256 (by decide)) (normed x0 x1 p) x2 x3 x4 q := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun0_A
  dsimp only
  sl_unfold_words
  simp only [View.readCov_unit_zero (S := S512x2048) _ hz, View.canon_cons_unit_zero (S := S512x2048) hz, readCov_whole,
    View.canon_unit_zero (S := S512x2048) hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz, View.ld_unit_zero (S := S1x2048) hz]
  have hN : ∀ (p : Fin 512) (k : Fin 2048), k0_pay4 (F := Ideal) x0 x1 (ix2 p k) = normed x0 x1 p k := by
    intro p k
    unfold_payloads
    pointwise
    rfl
  revert hN
  generalize k0_pay4 (F := Ideal) x0 x1 = N
  intro hN
  unfold_payloads
  pointwise
  simp only [hN, chunk, slab, Swiglu.unit, Nat.zero_add, zero_add]

/-- What the last step makes of a block whose accumulated sums are `A`: each row normalised, half of it added to the row of `x0`. -/
def epi (A x0 : Vec Ideal S512x2048 .f32) (x8 : Vec Ideal S1x2048 .f32) : Vec Ideal S512x2048 .f32 := fun y =>
  x0 y + A y * Swiglu.scale (fun k => A (ix2 (y 0) k)) * (Ideal.ofBits .f32 0x3F000000#32 * x8 (ix2 0 (y 1)))

/-- A strip of 128 rows, placed in its block. -/
theorem emb_strip (o : ℕ) (inb : ∀ a, ![o, 0] a + ![128, 2048] a ≤ S512x2048.size a) (r : Fin 128) (q : Fin 2048) (h : o + r.val < 512) :
    (Rect.unit (s := S512x2048) ![o, 0] ![128, 2048] inb).emb (ix2 r q) = ix2 ⟨o + r.val, h⟩ q := by
  funext a
  refine Fin.ext ((Rect.emb_apply _ _ _).trans ?_)
  fin_cases a
  · show o + 1 * r.val = o + r.val
    omega
  · show 0 + 1 * q.val = q.val
    omega

/-- A row lies in the strip of 128 rows that begins at `o`. -/
theorem mem_strip (o : ℕ) (inb : ∀ a, ![o, 0] a + ![128, 2048] a ≤ S512x2048.size a) (p : Fin 512) (q : Fin 2048) (h : o ≤ p.val) (h' : p.val < o + 128) :
    ix2 p q ∈ (Rect.unit (s := S512x2048) ![o, 0] ![128, 2048] inb).set := by
  have e : ix2 p q = (Rect.unit (s := S512x2048) ![o, 0] ![128, 2048] inb).emb (ix2 ⟨p.val - o, by omega⟩ q) := by
    rw [emb_strip o inb _ q (by simp only; omega)]
    congr 1
    apply Fin.ext
    simp only
    omega
  rw [e, ← Rect.map_emb_univ]
  exact Finset.mem_map_of_mem _ (Finset.mem_univ _)

/-- The last step adds its four strips and then finishes the block strip by strip of 128 rows. -/
theorem out_C (hc0 : ¬cond0_0 i) (hc1 : ¬cond0_1 i) (hc2 : cond0_2 i) (p : Fin 512) (q : Fin 2048) :
    out0_C_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0 (ix2 p q)
      = epi (fun y => chunk (xo9 y) (fun k => xs0 (ix2 (y 0) k)) x2 x3 x4 (y 1)) x0 x8 (ix2 p q) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0)]
  unfold kernelRun0_C
  dsimp only
  sl_unfold_words
  simp only [View.readCov_unit_zero (S := S512x2048) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz, View.ld_unit_zero (S := S1x2048) hz]
  generalize hA : k0_pay34 (F := Ideal) _ _ _ _ _ _ _ _ _ _ _ _ = A
  have hA' : A = fun y => chunk (xo9 y) (fun k => xs0 (ix2 (y 0) k)) x2 x3 x4 (y 1) := by
    rw [← hA]
    funext y
    obtain ⟨p, q, rfl⟩ : ∃ (p : Fin 512) (q : Fin 2048), y = ix2 p q := ⟨y 0, y 1, (ix2_eta y).symm⟩
    unfold_payloads
    pointwise
    simp only [chunk, slab, Swiglu.unit, Nat.zero_add]
  rw [← hA']
  clear hA hA'
  simp (config := {decide := true}) only [↓View.readCov_skip, readCov_rows]
  refine (View.canon_append_of_piecesOf (epi A x0 x8) [_] [_, _, _, _] ⟨?_, ?_, ?_, ?_, trivial⟩ (ix2 p q) ?_)
  · intro x
    obtain ⟨r, q, rfl⟩ : ∃ (r : Fin 128) (q : Fin 2048), x = ix2 r q := ⟨x 0, x 1, (ix2_eta x).symm⟩
    refine Eq.trans ?_ (congrArg (epi A x0 x8) (emb_strip 384 inb_S512x2048_S128x2048_384_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x8) (emb_strip 256 inb_S512x2048_S128x2048_256_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x8) (emb_strip 128 inb_S512x2048_S128x2048_128_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x8) (emb_strip 0 inb_S512x2048_S128x2048_0_0 r q (by omega))).symm
    unfold_payloads
    pointwise
    rfl
  · rcases (by omega : p.val < 128 ∨ (128 ≤ p.val ∧ p.val < 256) ∨ (256 ≤ p.val ∧ p.val < 384) ∨ 384 ≤ p.val) with h | h | h | h
    · exact ⟨_, List.mem_cons_of_mem _ (List.mem_cons_of_mem _ (List.mem_cons_of_mem _ List.mem_cons_self)), mem_strip 0 inb_S512x2048_S128x2048_0_0 p q (by omega) (by omega)⟩
    · exact ⟨_, List.mem_cons_of_mem _ (List.mem_cons_of_mem _ List.mem_cons_self), mem_strip 128 inb_S512x2048_S128x2048_128_0 p q (by omega) (by omega)⟩
    · exact ⟨_, List.mem_cons_of_mem _ List.mem_cons_self, mem_strip 256 inb_S512x2048_S128x2048_256_0 p q (by omega) (by omega)⟩
    · exact ⟨_, List.mem_cons_self, mem_strip 384 inb_S512x2048_S128x2048_384_0 p q (by omega) (by omega)⟩

end Cert.KernelIdeal.Cases

end
-- ==== Proof.Ffn2Value.lean ====
/-
  The array the second feed-forward call returns, entry by entry: the block of a row after each of its five steps is the
  tail's terms and the terms of the chunks so far, and the last step turns the whole sum into the branch.
-/
module

public import proofs.«01_k».proof.Proof.Ffn2Blocks
public import proofs.«01_k».proof.Proof.Ffn2Cases
public import proofs.«01_k».proof.Proof.Gen.KernelIdeal.Value

@[expose] public section

set_option maxRecDepth 16384

noncomputable section

namespace Cert.KernelIdeal.Blocks

open Cert Cert.KernelIdeal Cert.KernelIdeal.Gen Cert.KernelIdeal.Cases Idealize.ShloMosaic Idealize.ShloMosaic.TcCoe Idealize.SL.Sem

variable (m : (ℓ : Loc nD τ sig) → Buf (Elt Ideal) ℓ) (c : Dev nD)

/-- The gate's weights, a hidden column at a time. -/
abbrev gate (j : Fin 5632) (k : Fin 2048) : EReal := G m c (ix2 k j)
/-- The other factor's weights, a hidden column at a time. -/
abbrev up (j : Fin 5632) (k : Fin 2048) : EReal := U m c (ix2 k j)
/-- The weights back, a hidden column at a time. -/
abbrev down (j : Fin 5632) (q : Fin 2048) : EReal := D m c (ix2 j q)
/-- Row `r`. -/
abbrev xrow (r : Fin 8192) (k : Fin 2048) : EReal := X m c (ix2 r k)
/-- Row `r`, normalised. -/
abbrev nrow (r : Fin 8192) : Fin 2048 → EReal := Swiglu.norm (xrow m c r) (pre m c)
/-- The terms of row `r` for output column `q`. -/
abbrev terms (r : Fin 8192) (q : Fin 2048) : ℕ → EReal := Swiglu.termN (nrow m c r) (gate m c) (up m c) (down m c) q

/-- A strip of the chunk's columns is a strip of terms. -/
theorem slab_chunk (t : Fin cfg0.N) (r : Fin 8192) (q : Fin 2048) (o : ℕ) (ho : o + 256 ≤ 1024) :
    slab (nrow m c r) (X0_2 m c t) (X0_3 m c t) (X0_4 m c t) q o ho = Swiglu.strip (terms m c r q) (t.val % 5 * 1024 + o) := by
  have h5 : t.val % 5 < 5 := Nat.mod_lt _ (by decide)
  exact Swiglu.strip_congr _ _ _ _ q (t.val % 5 * 1024 + o) (by omega) _ _ _
    (fun j k => blk_2 m c t k _ _ (by simp only; omega)) (fun j k => blk_3 m c t k _ _ (by simp only; omega))
    (fun j => blk_4 m c t _ q _ (by simp only; omega))

/-- A strip of the last 512 columns is a strip of terms. -/
theorem slab_tail (t : Fin cfg0.N) (r : Fin 8192) (q : Fin 2048) (o : ℕ) (ho : o + 256 ≤ 512) :
    slab (nrow m c r) (iblk m c 5 t) (iblk m c 6 t) (iblk m c 7 t) q o ho = Swiglu.strip (terms m c r q) (5120 + o) :=
  Swiglu.strip_congr _ _ _ _ q (5120 + o) (by omega) _ _ _
    (fun j k => blk_5 m c t k _ _ (by simp only; omega)) (fun j k => blk_6 m c t k _ _ (by simp only; omega))
    (fun j => blk_7 m c t q _ _ (by simp only; omega))

/-- A chunk's four strips after the tail and the chunks before are the tail and the chunks so far. -/
theorem chunk_eq (t : Fin cfg0.N) (r : Fin 8192) (q : Fin 2048) (T : EReal) :
    chunk (T + ∑ j ∈ Finset.range (t.val % 5 * 1024), terms m c r q j) (nrow m c r) (X0_2 m c t) (X0_3 m c t) (X0_4 m c t) q
      = T + ∑ j ∈ Finset.range (t.val % 5 * 1024 + 1024), terms m c r q j := by
  unfold chunk
  simp only [slab_chunk]
  exact Swiglu.chunk_step _ _ _ _ q T _

/-- The normalised block, row by row. -/
theorem normed_eq (t : Fin cfg0.N) (p : Fin 512) (r : Fin 8192) (hr : r.val = t.val / 5 * 512 + p.val) :
    normed (iblk m c 0 t) (iblk m c 1 t) p = nrow m c r := by
  funext k
  unfold normed
  simp only [blk_0 m c t p _ r hr, blk_1 m c t]

/-- The terms of row `r` after `n` columns and the tail. -/
abbrev sofar (r : Fin 8192) (q : Fin 2048) (n : ℕ) : EReal :=
  Swiglu.tail (nrow m c r) (gate m c) (up m c) (down m c) q + ∑ j ∈ Finset.range n, terms m c r q j

/-- The first step of a row block. -/
theorem sweep_first (t : Fin cfg0.N) (h0 : t.val % 5 = 0) (p : Fin 512) (r : Fin 8192) (hr : r.val = t.val / 5 * 512 + p.val) :
    (∀ q : Fin 2048, (outsAt0 m c t.val t.isLt).2 (ix2 p q) = nrow m c r q)
    ∧ ∀ q : Fin 2048, (outsAt0 m c t.val t.isLt).1 (ix2 p q) = sofar m c r q (t.val % 5 * 1024 + 1024) := by
  have hn := normed_eq m c t p r hr
  rw [outsAt0_A m c t h0 (by omega) (by omega)]
  constructor
  · intro q
    dsimp only
    rw [sout_A]
    exact congrFun hn q
  · intro q
    dsimp only
    rw [out_A]
    rw [hn]
    have ht := chunk_eq m c t r q (Swiglu.tail (nrow m c r) (gate m c) (up m c) (down m c) q)
    refine Eq.trans ?_ ht
    simp only [slab_tail, h0, Nat.zero_mul, Finset.range_zero, Finset.sum_empty, add_zero, Swiglu.tail_eq, Nat.reduceAdd]

/-- A later step short of the last, from the step before. -/
theorem sweep_next (t : Fin cfg0.N) (h1 : 1 ≤ t.val % 5 ∧ t.val % 5 ≤ 3) (p : Fin 512) (r : Fin 8192) (a : Fin 2048 → EReal)
    (T : Fin 2048 → EReal) (ha : a = nrow m c r)
    (h : ∀ q : Fin 2048, (outsAt0 m c (t.val - 1) (Nat.lt_of_le_of_lt (Nat.sub_le _ _) t.isLt)).2 (ix2 p q) = a q)
    (h' : ∀ q : Fin 2048, (outsAt0 m c (t.val - 1) (Nat.lt_of_le_of_lt (Nat.sub_le _ _) t.isLt)).1 (ix2 p q) = sofar m c r q (t.val % 5 * 1024)) :
    (∀ q : Fin 2048, (outsAt0 m c t.val t.isLt).2 (ix2 p q) = nrow m c r q)
    ∧ ∀ q : Fin 2048, (outsAt0 m c t.val t.isLt).1 (ix2 p q) = sofar m c r q (t.val % 5 * 1024 + 1024) := by
  subst ha
  rw [outsAt0_B m c t (by omega) h1 (by omega)]
  constructor
  · intro q
    exact h q
  · intro q
    dsimp only
    rw [out_B]
    rw [h' q, show (fun k => (outsAt0 m c (t.val - 1) (Nat.lt_of_le_of_lt (Nat.sub_le _ _) t.isLt)).2 (ix2 p k)) = nrow m c r from funext h]
    exact chunk_eq m c t r q _

/-- After a step short of the last: the normalised rows in the carried scratch, the terms so far in the block. -/
theorem sweep (n : ℕ) (hn : n < cfg0.N) (h4 : n % 5 < 4) (p : Fin 512) (r : Fin 8192) (hr : r.val = n / 5 * 512 + p.val) :
    (∀ q : Fin 2048, (outsAt0 m c n hn).2 (ix2 p q) = nrow m c r q)
    ∧ ∀ q : Fin 2048, (outsAt0 m c n hn).1 (ix2 p q) = sofar m c r q (n % 5 * 1024 + 1024) := by
  induction n with
  | zero => exact sweep_first m c ⟨0, hn⟩ rfl p r hr
  | succ n ih =>
    by_cases h0 : (n + 1) % 5 = 0
    · exact sweep_first m c ⟨n + 1, hn⟩ h0 p r hr
    · have hd : n / 5 = (n + 1) / 5 := by omega
      have hm : n % 5 * 1024 + 1024 = (n + 1) % 5 * 1024 := by omega
      obtain ⟨h, h'⟩ := ih (Nat.lt_of_succ_lt hn) (by omega) (by rw [hd]; exact hr)
      rw [hm] at h'
      exact sweep_next m c ⟨n + 1, hn⟩ ⟨by simp only; omega, by simp only; omega⟩ p r _ (nrow m c r) rfl h h'

/-- The last step of a row block: the branch of the row. -/
theorem sweep_last (t : Fin cfg0.N) (h4 : t.val % 5 = 4) (p : Fin 512) (r : Fin 8192) (hr : r.val = t.val / 5 * 512 + p.val) (q : Fin 2048) :
    (outsAt0 m c t.val t.isLt).1 (ix2 p q)
      = Swiglu.branch (xrow m c r) (pre m c) (post m c) (gate m c) (up m c) (down m c) q := by
  obtain ⟨h, h'⟩ := sweep m c (t.val - 1) (Nat.lt_of_le_of_lt (Nat.sub_le _ _) t.isLt) (by omega) p r (by omega)
  have hm : (t.val - 1) % 5 * 1024 + 1024 = t.val % 5 * 1024 := by omega
  rw [hm] at h'
  have hA : ∀ k : Fin 2048, chunk ((outsAt0 m c (t.val - 1) (Nat.lt_of_le_of_lt (Nat.sub_le _ _) t.isLt)).1 (ix2 p k))
      (fun k => (outsAt0 m c (t.val - 1) (Nat.lt_of_le_of_lt (Nat.sub_le _ _) t.isLt)).2 (ix2 p k)) (X0_2 m c t) (X0_3 m c t) (X0_4 m c t) k
      = Swiglu.hidden (nrow m c r) (gate m c) (up m c) (down m c) k := by
    intro k
    rw [h' k, show (fun k => (outsAt0 m c (t.val - 1) (Nat.lt_of_le_of_lt (Nat.sub_le _ _) t.isLt)).2 (ix2 p k)) = nrow m c r from funext h]
    refine (chunk_eq m c t r k _).trans ?_
    rw [h4]
    exact Swiglu.tail_add_below _ _ _ _ k
  rw [outsAt0_C m c t (by omega) (by omega) h4]
  dsimp only
  rw [out_C]
  unfold epi
  show (_ : EReal) + chunk ((outsAt0 m c (t.val - 1) _).1 (ix2 p q)) (fun k => (outsAt0 m c (t.val - 1) _).2 (ix2 p k)) _ _ _ q
      * Swiglu.scale (fun k => chunk ((outsAt0 m c (t.val - 1) _).1 (ix2 p k)) (fun k => (outsAt0 m c (t.val - 1) _).2 (ix2 p k)) _ _ _ k) * (_ * iblk m c 8 t (ix2 0 q)) = _
  rw [hA q, funext hA, blk_0 m c t p q r hr, blk_8 m c t q]
  rfl

/-- The array the call leaves, at an entry. -/
theorem G9_apply (r : Fin 8192) (q : Fin 2048) :
    Value.G9 m c (ix2 r q) = Swiglu.branch (xrow m c r) (pre m c) (post m c) (gate m c) (up m c) (down m c) q := by
  have hp : Value.pt9Of (ix2 r q) = r.val / 512 * 5 + 4 := by
    show 5 * (1 * (r.val / 512 - 0) + 1 * (q.val / 2048 - 0)) + 4 = _
    omega
  have hlt : Value.pt9Of (ix2 r q) < cfg0.N := by
    rw [hp, show cfg0.N = 80 from N_0]
    omega
  unfold Value.G9
  rw [dif_pos hlt, ← Value.outsAt0_sweep m c _ hlt]
  have e := sweep_last m c ⟨Value.pt9Of (ix2 r q), hlt⟩ (by simp only [hp]; omega) ⟨r.val % 512, Nat.mod_lt _ (by decide)⟩ r
    (by simp only [hp]; omega) q
  refine Eq.trans (congrArg _ ?_) e
  funext a
  apply Fin.ext
  match a with
  | ⟨0, _⟩ => rfl
  | ⟨1, _⟩ => show q.val % 2048 = q.val; omega

end Cert.KernelIdeal.Blocks

end
-- ==== Proof.Ffn2Reference.lean ====
/-
  The second feed-forward block's reference, read at an entry.
-/
module

public import proofs.«01_k».proof.Proof.Swiglu
public import proofs.«01_k».proof.Proof.Gen.ReferenceIdeal.Run
public import Idealize.ShloMosaic.Lib.Pointwise

@[expose] public section

set_option maxRecDepth 16384

noncomputable section

namespace Cert.ReferenceIdeal.Entry

open Cert Cert.ReferenceIdeal Cert.ReferenceIdeal.Gen Idealize.ShloMosaic Idealize.ShloMosaic.TcCoe Idealize.SL.Sem

/-- The reference's root-mean-square normalisation of every row, with a gain. -/
def rms (x : FVec Ideal S8192x2048 .f32) (g : FVec Ideal S2048 .f32) : FVec Ideal S8192x2048 .f32 :=
  mulf (mulf x (broadcastInDim S8192x2048 ![0, 1] bcast_S8192x1_S8192x2048_0_1
    (Host.rsqrt (addf (Host.divf (broadcastInDim S8192x1 ![0] bcast_S8192_S8192x1_0
        (Host.reduceAdd (mulf x x) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- An inner product of every row with every hidden column. -/
def proj (a : FVec Ideal S8192x2048 .f32) (w : FVec Ideal S2048x5632 .f32) : FVec Ideal S8192x5632 .f32 :=
  Host.dotGeneral dot_S8192x2048_S2048x5632_S8192x5632_1_0_0_1_n_n none a w

/-- An array times its logistic, as the reference spells it. -/
def silu (h : FVec Ideal S8192x5632 .f32) : FVec Ideal S8192x5632 .f32 :=
  mulf h (Host.divf (broadcastInDim S8192x5632 ![] bcast_S_S8192x5632 (constant S_ .f32 0x3F800000#32))
    (addf (broadcastInDim S8192x5632 ![] bcast_S_S8192x5632 (constant S_ .f32 0x3F800000#32)) (Host.exp (Host.negf h))))

/-- The gated block of every row. -/
def gated (a : FVec Ideal S8192x2048 .f32) (wg wu : FVec Ideal S2048x5632 .f32) (wd : FVec Ideal S5632x2048 .f32) :
    FVec Ideal S8192x2048 .f32 :=
  Host.dotGeneral dot_S8192x5632_S5632x2048_S8192x2048_1_0_0_1_n_n none (mulf (silu (proj a wg)) (proj a wu)) wd

/-- The normalisation at an entry. -/
theorem rms_apply (x : FVec Ideal S8192x2048 .f32) (g : FVec Ideal S2048 .f32) (r : Fin 8192) (k : Fin 2048) :
    rms x g (ix2 r k) = Swiglu.norm (fun k => x (ix2 r k)) (fun k => g (ix1 k)) k := by
  unfold rms Swiglu.norm Swiglu.scale
  pointwise

/-- An inner product at an entry. -/
theorem proj_apply (a : FVec Ideal S8192x2048 .f32) (w : FVec Ideal S2048x5632 .f32) (r : Fin 8192) (j : Fin 5632) :
    proj a w (ix2 r j) = ∑ k : Fin 2048, a (ix2 r k) * w (ix2 k j) := by
  unfold proj
  pointwise

/-- The gate at an entry. -/
theorem silu_apply (h : FVec Ideal S8192x5632 .f32) (r : Fin 8192) (j : Fin 5632) :
    silu h (ix2 r j) = h (ix2 r j) * Ideal.logistic (h (ix2 r j)) := by
  unfold silu Ideal.logistic
  pointwise

/-- The gated block at an entry. -/
theorem gated_apply (a : FVec Ideal S8192x2048 .f32) (wg wu : FVec Ideal S2048x5632 .f32) (wd : FVec Ideal S5632x2048 .f32)
    (r : Fin 8192) (q : Fin 2048) :
    gated a wg wu wd (ix2 r q)
      = Swiglu.hidden (fun k => a (ix2 r k)) (fun j k => wg (ix2 k j)) (fun j k => wu (ix2 k j)) (fun j q => wd (ix2 j q)) q := by
  unfold gated Swiglu.hidden Swiglu.unit
  pointwise
  simp only [silu_apply, proj_apply]

variable (m : (ℓ : Loc nD τ sig) → Buf (Elt Ideal) ℓ) (c : Dev nD)

/-- The reference's result, in the steps above. -/
theorem result_eq :
    Value.res_out0 (F := Ideal) m c
      = addf (shapeCast S8192x2048 (m ((c.tc : Thread nD τ).loc main_arg0)) shapeCasts_S4x2048x2048_S8192x2048 : FVec Ideal S8192x2048 .f32)
          (mulf (broadcastInDim S8192x2048 ![] bcast_S_S8192x2048 (constant S_ .f32 0x3F000000#32))
            (rms (gated (rms (shapeCast S8192x2048 (m ((c.tc : Thread nD τ).loc main_arg0)) shapeCasts_S4x2048x2048_S8192x2048)
                  (shapeCast S2048 (m ((c.tc : Thread nD τ).loc main_arg1)) shapeCasts_S1x2048_S2048))
                (shapeCast S2048x5632 (m ((c.tc : Thread nD τ).loc main_arg2)) shapeCasts_S1x2048x5632_S2048x5632)
                (shapeCast S2048x5632 (m ((c.tc : Thread nD τ).loc main_arg3)) shapeCasts_S1x2048x5632_S2048x5632)
                (shapeCast S5632x2048 (m ((c.tc : Thread nD τ).loc main_arg4)) shapeCasts_S1x5632x2048_S5632x2048))
              (shapeCast S2048 (m ((c.tc : Thread nD τ).loc main_arg5)) shapeCasts_S1x2048_S2048))) := rfl

/-- The reference's result at an entry: the branch of its row. -/
theorem result_apply (r : Fin 8192) (q : Fin 2048) :
    (Value.res_out0 (F := Ideal) m c : FVec Ideal S8192x2048 .f32) (ix2 r q)
      = Swiglu.branch
          (fun k => (shapeCast S8192x2048 (m ((c.tc : Thread nD τ).loc main_arg0)) shapeCasts_S4x2048x2048_S8192x2048 : FVec Ideal S8192x2048 .f32) (ix2 r k))
          (fun k => (shapeCast S2048 (m ((c.tc : Thread nD τ).loc main_arg1)) shapeCasts_S1x2048_S2048 : FVec Ideal S2048 .f32) (ix1 k))
          (fun k => (shapeCast S2048 (m ((c.tc : Thread nD τ).loc main_arg5)) shapeCasts_S1x2048_S2048 : FVec Ideal S2048 .f32) (ix1 k))
          (fun j k => (shapeCast S2048x5632 (m ((c.tc : Thread nD τ).loc main_arg2)) shapeCasts_S1x2048x5632_S2048x5632 : FVec Ideal S2048x5632 .f32) (ix2 k j))
          (fun j k => (shapeCast S2048x5632 (m ((c.tc : Thread nD τ).loc main_arg3)) shapeCasts_S1x2048x5632_S2048x5632 : FVec Ideal S2048x5632 .f32) (ix2 k j))
          (fun j q => (shapeCast S5632x2048 (m ((c.tc : Thread nD τ).loc main_arg4)) shapeCasts_S1x5632x2048_S5632x2048 : FVec Ideal S5632x2048 .f32) (ix2 j q))
          q := by
  rw [result_eq]
  rw [addf_apply, mulf_apply, rms_apply]
  simp only [gated_apply, rms_apply]
  unfold Swiglu.branch
  exact congrArg _ (mul_left_comm _ _ _)

end Cert.ReferenceIdeal.Entry

end
-- ==== Proof.Ffn2.lean ====
/-
  The second feed-forward call and its reference give the same array.
-/
module

public import proofs.«01_k».proof.Defs
public import proofs.«01_k».proof.Proof.Ffn2Value
public import proofs.«01_k».proof.Proof.Ffn2Reference

@[expose] public section

noncomputable section

namespace Cert.Ffn2

open Cert Idealize.ShloMosaic Idealize.ShloMosaic.TcCoe Idealize.SL.Sem

/-- On memories with equal arguments the reference's array is the kernel's. -/
theorem values_eq
    (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5)) :
    (ReferenceIdeal.Value.res_out0 (F := Ideal) m' c : FVec Ideal KernelIdeal.S8192x2048 .f32) = KernelIdeal.Value.G9 m c := by
  funext y
  obtain ⟨r, q, rfl⟩ : ∃ (r : Fin 8192) (q : Fin 2048), y = ix2 r q := ⟨y 0, y 1, (ix2_eta y).symm⟩
  refine (ReferenceIdeal.Entry.result_apply m' c r q).trans (Eq.trans ?_ (KernelIdeal.Blocks.G9_apply m c r q).symm)
  rw [h0, h1, h2, h3, h4, h5]
  rfl

/-- Kernel and reference compute the same function over the extended reals. -/
theorem algebraic : algebraic_KernelIdeal_ReferenceIdeal := by
  intro m ρ m' ρ' _ hagree
  refine ⟨_, KernelIdeal.Value.run (F := Ideal) m ρ, ?_⟩
  refine (θ_run ReferenceIdeal.defs _ _).mono (fun _ h c => ⟨?_, (h c).2⟩) (ReferenceIdeal.Value.run (F := Ideal) m' ρ')
  obtain ⟨h0, h1, h2, h3, h4, h5⟩ := hagree c
  exact (h c).1.trans (values_eq m m' c h0 h1 h2 h3 h4 h5)

end Cert.Ffn2

end
-- ==== Proof.Ffn1Blocks.lean ====
/-
  What the windows of the first feed-forward call hold at a grid point, entry by entry, as entries of the arrays the
  call is given.
-/
module

public import proofs.«01_k».proof.Proof.Swiglu
public import proofs.«01_k».proof.Proof.Gen.Kernel2Ideal.Frame
public import Idealize.ShloMosaic.Lib.Pipeline.Value
public import Idealize.ShloMosaic.Lib.Tactic
public import Idealize.ShloMosaic.Lib.Pointwise

@[expose] public section

set_option maxRecDepth 16384

noncomputable section

namespace Cert.Kernel2Ideal.Blocks

open Cert Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The rows the call works on. -/
def X : Vec Ideal S8192x2048 .f32 := shapeCast S8192x2048 (m ((c : Thread nD τ).loc main_arg0)) shapeCasts_S4x2048x2048_S8192x2048
/-- The gate's weights. -/
def G : Vec Ideal S2048x5632 .f32 := shapeCast S2048x5632 (m ((c : Thread nD τ).loc main_arg2)) shapeCasts_S1x2048x5632_S2048x5632
/-- The other factor's weights. -/
def U : Vec Ideal S2048x5632 .f32 := shapeCast S2048x5632 (m ((c : Thread nD τ).loc main_arg3)) shapeCasts_S1x2048x5632_S2048x5632
/-- The weights back to the model's width. -/
def D : Vec Ideal S5632x2048 .f32 := shapeCast S5632x2048 (m ((c : Thread nD τ).loc main_arg4)) shapeCasts_S1x5632x2048_S5632x2048

/-- The gain before the block. -/
def pre (k : Fin 2048) : EReal := (shapeCast S2048 (m ((c : Thread nD τ).loc main_arg1)) shapeCasts_S1x2048_S2048 : Vec Ideal S2048 .f32) (ix1 k)
/-- The gain after the block. -/
def post (k : Fin 2048) : EReal := (shapeCast S2048 (m ((c : Thread nD τ).loc main_arg5)) shapeCasts_S1x2048_S2048 : Vec Ideal S2048 .f32) (ix1 k)

/-- The region reads the rows as they are given. -/
theorem V_v6 : V m c main_v6 = X m c := rfl
/-- The cast of the gate's weights changes nothing. -/
theorem V_v1 (y : S2048x5632.Idx) : V m c main_v1 y = G m c y := rfl
/-- The cast of the other factor's weights changes nothing. -/
theorem V_v3 (y : S2048x5632.Idx) : V m c main_v3 y = U m c y := rfl
/-- The cast of the weights back changes nothing. -/
theorem V_v5 (y : S5632x2048.Idx) : V m c main_v5 y = D m c y := rfl
/-- The gain before the block, laid out as a row. -/
theorem V_v8 (k : Fin 2048) : (V m c main_v8 : Vec Ideal S1x2048 .f32) (ix2 0 k) = pre m c k := by
  show (shapeCast S1x2048 (shapeCast S2048 (m ((c : Thread nD τ).loc main_arg1)) shapeCasts_S1x2048_S2048 : Vec Ideal S2048 .f32) shapeCasts_S2048_S1x2048 : Vec Ideal S1x2048 .f32) (ix2 0 k) = pre m c k
  unfold pre
  pointwise
/-- The gain after the block, laid out as a row. -/
theorem V_v10 (k : Fin 2048) : (V m c main_v10 : Vec Ideal S1x2048 .f32) (ix2 0 k) = post m c k := by
  show (shapeCast S1x2048 (shapeCast S2048 (m ((c : Thread nD τ).loc main_arg5)) shapeCasts_S1x2048_S2048 : Vec Ideal S2048 .f32) shapeCasts_S2048_S1x2048 : Vec Ideal S1x2048 .f32) (ix2 0 k) = post m c k
  unfold post
  pointwise

/-- Window 0 moves with the row block, past the first two. -/
theorem index_0 : ∀ t : Fin cfg0.N, win0_0.index t (0 : Fin 2) = t.val / 5 + 2 ∧ win0_0.index t (1 : Fin 2) = 0 :=
  (by decide +kernel : ∀ t : Fin grid0.N, win0_0.index t (0 : Fin 2) = t.val / 5 + 2 ∧ win0_0.index t (1 : Fin 2) = 0)
/-- Window 2 moves along the hidden columns. -/
theorem index_2 : ∀ t : Fin cfg0.N, win0_2.index t (0 : Fin 2) = 0 ∧ win0_2.index t (1 : Fin 2) = t.val % 5 :=
  (by decide +kernel : ∀ t : Fin grid0.N, win0_2.index t (0 : Fin 2) = 0 ∧ win0_2.index t (1 : Fin 2) = t.val % 5)
/-- Window 3 moves along the hidden columns. -/
theorem index_3 : ∀ t : Fin cfg0.N, win0_3.index t (0 : Fin 2) = 0 ∧ win0_3.index t (1 : Fin 2) = t.val % 5 :=
  (by decide +kernel : ∀ t : Fin grid0.N, win0_3.index t (0 : Fin 2) = 0 ∧ win0_3.index t (1 : Fin 2) = t.val % 5)
/-- Window 4 moves along the hidden rows. -/
theorem index_4 : ∀ t : Fin cfg0.N, win0_4.index t (0 : Fin 2) = t.val % 5 ∧ win0_4.index t (1 : Fin 2) = 0 :=
  (by decide +kernel : ∀ t : Fin grid0.N, win0_4.index t (0 : Fin 2) = t.val % 5 ∧ win0_4.index t (1 : Fin 2) = 0)
/-- Window 5 stays at the last 512 hidden columns. -/
theorem index_5 : ∀ t : Fin cfg0.N, win0_5.index t (0 : Fin 2) = 0 ∧ win0_5.index t (1 : Fin 2) = 10 :=
  (by decide +kernel : ∀ t : Fin grid0.N, win0_5.index t (0 : Fin 2) = 0 ∧ win0_5.index t (1 : Fin 2) = 10)
/-- Window 6 stays at the last 512 hidden columns. -/
theorem index_6 : ∀ t : Fin cfg0.N, win0_6.index t (0 : Fin 2) = 0 ∧ win0_6.index t (1 : Fin 2) = 10 :=
  (by decide +kernel : ∀ t : Fin grid0.N, win0_6.index t (0 : Fin 2) = 0 ∧ win0_6.index t (1 : Fin 2) = 10)
/-- Window 7 stays at the last 512 hidden rows. -/
theorem index_7 : ∀ t : Fin cfg0.N, win0_7.index t (0 : Fin 2) = 10 ∧ win0_7.index t (1 : Fin 2) = 0 :=
  (by decide +kernel : ∀ t : Fin grid0.N, win0_7.index t (0 : Fin 2) = 10 ∧ win0_7.index t (1 : Fin 2) = 0)
/-- Window 1 stays. -/
theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Window 8 stays. -/
theorem index_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 0 holds 512 rows. -/
theorem blk_0 (t : Fin cfg0.N) (p : Fin 512) (k : Fin 2048) (r : Fin 8192) (hr : r.val = t.val / 5 * 512 + 1024 + p.val) :
    iblk m c 0 t (ix2 p k) = X m c (ix2 r k) := by
  unfold iblk
  rw [View.read_apply]
  show V m c main_v6 _ = X m c _
  rw [V_v6]
  congr 1
  funext a
  apply Fin.ext
  match a with
  | ⟨0, _⟩ => show win0_0.index t 0 * 512 + 1 * p.val = r.val; rw [(index_0 t).1]; omega
  | ⟨1, _⟩ => show win0_0.index t 1 * 2048 + 1 * k.val = k.val; rw [(index_0 t).2]; omega

/-- Window 1 holds the gain before the block. -/
theorem blk_1 (t : Fin cfg0.N) (k : Fin 2048) : iblk m c 1 t (ix2 0 k) = pre m c k := by
  rw [← V_v8]
  unfold iblk
  rw [View.read_apply]
  show V m c main_v8 _ = V m c main_v8 _
  congr 1
  funext a
  apply Fin.ext
  match a with
  | ⟨0, _⟩ => show win0_1.index t 0 * 1 + 1 * 0 = 0; rw [(index_1 t).1]
  | ⟨1, _⟩ => show win0_1.index t 1 * 2048 + 1 * k.val = k.val; rw [(index_1 t).2]; omega

/-- Window 2 holds 1024 of the gate's columns. -/
theorem blk_2 (t : Fin cfg0.N) (k : Fin 2048) (j : Fin 1024) (q : Fin 5632) (hq : q.val = t.val % 5 * 1024 + j.val) :
    X0_2 m c t (ix2 k j) = G m c (ix2 k q) := by
  unfold X0_2 Pipeline.Window.fill
  rw [dif_pos (moved0_2 t _)]
  unfold iblk
  rw [View.read_apply]
  show V m c main_v1 _ = G m c _
  rw [V_v1]
  congr 1
  funext a
  apply Fin.ext
  match a with
  | ⟨0, _⟩ => show win0_2.index t 0 * 2048 + 1 * k.val = k.val; rw [(index_2 t).1]; omega
  | ⟨1, _⟩ => show win0_2.index t 1 * 1024 + 1 * j.val = q.val; rw [(index_2 t).2]; omega

/-- Window 3 holds 1024 of the other factor's columns. -/
theorem blk_3 (t : Fin cfg0.N) (k : Fin 2048) (j : Fin 1024) (q : Fin 5632) (hq : q.val = t.val % 5 * 1024 + j.val) :
    X0_3 m c t (ix2 k j) = U m c (ix2 k q) := by
  unfold X0_3 Pipeline.Window.fill
  rw [dif_pos (moved0_3 t _)]
  unfold iblk
  rw [View.read_apply]
  show V m c main_v3 _ = U m c _
  rw [V_v3]
  congr 1
  funext a
  apply Fin.ext
  match a with
  | ⟨0, _⟩ => show win0_3.index t 0 * 2048 + 1 * k.val = k.val; rw [(index_3 t).1]; omega
  | ⟨1, _⟩ => show win0_3.index t 1 * 1024 + 1 * j.val = q.val; rw [(index_3 t).2]; omega

/-- Window 4 holds 1024 rows of the weights back. -/
theorem blk_4 (t : Fin cfg0.N) (j : Fin 1024) (k : Fin 2048) (q : Fin 5632) (hq : q.val = t.val % 5 * 1024 + j.val) :
    X0_4 m c t (ix2 j k) = D m c (ix2 q k) := by
  unfold X0_4 Pipeline.Window.fill
  rw [dif_pos (moved0_4 t _)]
  unfold iblk
  rw [View.read_apply]
  show V m c main_v5 _ = D m c _
  rw [V_v5]
  congr 1
  funext a
  apply Fin.ext
  match a with
  | ⟨0, _⟩ => show win0_4.index t 0 * 1024 + 1 * j.val = q.val; rw [(index_4 t).1]; omega
  | ⟨1, _⟩ => show win0_4.index t 1 * 2048 + 1 * k.val = k.val; rw [(index_4 t).2]; omega

/-- Window 5 holds the gate's last 512 columns. -/
theorem blk_5 (t : Fin cfg0.N) (k : Fin 2048) (j : Fin 512) (q : Fin 5632) (hq : q.val = 5120 + j.val) :
    iblk m c 5 t (ix2 k j) = G m c (ix2 k q) := by
  unfold iblk
  rw [View.read_apply]
  show V m c main_v1 _ = G m c _
  rw [V_v1]
  congr 1
  funext a
  apply Fin.ext
  match a with
  | ⟨0, _⟩ => show win0_5.index t 0 * 2048 + 1 * k.val = k.val; rw [(index_5 t).1]; omega
  | ⟨1, _⟩ => show win0_5.index t 1 * 512 + 1 * j.val = q.val; rw [(index_5 t).2]; omega

/-- Window 6 holds the other factor's last 512 columns. -/
theorem blk_6 (t : Fin cfg0.N) (k : Fin 2048) (j : Fin 512) (q : Fin 5632) (hq : q.val = 5120 + j.val) :
    iblk m c 6 t (ix2 k j) = U m c (ix2 k q) := by
  unfold iblk
  rw [View.read_apply]
  show V m c main_v3 _ = U m c _
  rw [V_v3]
  congr 1
  funext a
  apply Fin.ext
  match a with
  | ⟨0, _⟩ => show win0_6.index t 0 * 2048 + 1 * k.val = k.val; rw [(index_6 t).1]; omega
  | ⟨1, _⟩ => show win0_6.index t 1 * 512 + 1 * j.val = q.val; rw [(index_6 t).2]; omega

/-- Window 7 holds the last 512 rows of the weights back. -/
theorem blk_7 (t : Fin cfg0.N) (k : Fin 2048) (j : Fin 512) (q : Fin 5632) (hq : q.val = 5120 + j.val) :
    iblk m c 7 t (ix2 j k) = D m c (ix2 q k) := by
  unfold iblk
  rw [View.read_apply]
  show V m c main_v5 _ = D m c _
  rw [V_v5]
  congr 1
  funext a
  apply Fin.ext
  match a with
  | ⟨0, _⟩ => show win0_7.index t 0 * 512 + 1 * j.val = q.val; rw [(index_7 t).1]; omega
  | ⟨1, _⟩ => show win0_7.index t 1 * 2048 + 1 * k.val = k.val; rw [(index_7 t).2]; omega

/-- Window 8 holds the gain after the block. -/
theorem blk_8 (t : Fin cfg0.N) (k : Fin 2048) : iblk m c 8 t (ix2 0 k) = post m c k := by
  rw [← V_v10]
  unfold iblk
  rw [View.read_apply]
  show V m c main_v10 _ = V m c main_v10 _
  congr 1
  funext a
  apply Fin.ext
  match a with
  | ⟨0, _⟩ => show win0_8.index t 0 * 1 + 1 * 0 = 0; rw [(index_8 t).1]
  | ⟨1, _⟩ => show win0_8.index t 1 * 2048 + 1 * k.val = k.val; rw [(index_8 t).2]; omega

end Cert.Kernel2Ideal.Blocks

end
-- ==== Proof.Ffn1Cases.lean ====
/-
  What each case of the first feed-forward call leaves behind at the ideal instance, read at an index.
-/
module

public import proofs.«01_k».proof.Proof.Swiglu
public import proofs.«01_k».proof.Proof.Gen.Kernel2Ideal.Frame
public import Idealize.ShloMosaic.Lib.Pipeline.Value
public import Idealize.ShloMosaic.Lib.Pipeline.ReadBack
public import Idealize.ShloMosaic.Lib.Tactic
public import Idealize.ShloMosaic.Lib.Pointwise

@[expose] public section

set_option maxRecDepth 16384

noncomputable section

namespace Cert.Kernel2Ideal.Cases

open scoped BigOperators
open Cert Cert.Kernel2Ideal Cert.Kernel2Ideal.Gen Idealize.ShloMosaic Idealize.ShloMosaic.TcCoe Idealize.SL.Sem

/-- The zero offset, spelt two ways. -/
theorem hz : (![0, 0] : Fin 2 → Nat) = fun _ => 0 := funext fun a => by fin_cases a <;> rfl

/-- A load of the whole block after a store of the whole block reads the store. -/
theorem readCov_whole {sig : RefSig} {κ : Kind} {sp : Space} (v : View sig κ sp S512x2048 .f32) (inb inb' : ∀ a, ![0, 0] a + ![512, 2048] a ≤ S512x2048.size a)
    (Z : S512x2048.Idx → Elt Ideal .f32) (L : List (View.Piece (Elt Ideal) S512x2048 .f32)) :
    v.readCov (⟨Rect.unit ![0, 0] ![512, 2048] inb, Z⟩ :: L) (Rect.unit ![0, 0] ![512, 2048] inb').toLoadRect = Z :=
  (View.readCov_fill v inb Z L _ (fun a => by fin_cases a <;> rfl)).trans (View.ld_unit_zero (S := S512x2048) hz _ _)

/-- A load of a strip of 128 rows after a store of the whole block reads the strip of it. -/
theorem readCov_rows {sig : RefSig} {κ : Kind} {sp : Space} (v : View sig κ sp S512x2048 .f32) (inb : ∀ a, ![0, 0] a + ![512, 2048] a ≤ S512x2048.size a)
    (o : ℕ) (inb' : ∀ a, ![o, 0] a + ![128, 2048] a ≤ S512x2048.size a)
    (Z : S512x2048.Idx → Elt Ideal .f32) (L : List (View.Piece (Elt Ideal) S512x2048 .f32)) :
    v.readCov (⟨Rect.unit ![0, 0] ![512, 2048] inb, Z⟩ :: L) (Rect.unit ![o, 0] ![128, 2048] inb').toLoadRect
      = View.ld Z (Rect.unit ![o, 0] ![128, 2048] inb') :=
  View.readCov_fill v inb Z L _ (fun a => by fin_cases a <;> rfl)

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S512x2048 .bf16) (harg12 : arg12.IsWhole)
  (x0 : Vec Ideal S512x2048 .f32) (x1 : Vec Ideal S1x2048 .f32) (x2 : Vec Ideal S2048x1024 .bf16) (x3 : Vec Ideal S2048x1024 .bf16) (x4 : Vec Ideal S1024x2048 .bf16) (x5 : Vec Ideal S2048x512 .bf16) (x6 : Vec Ideal S2048x512 .bf16) (x7 : Vec Ideal S512x2048 .bf16) (x8 : Vec Ideal S1x2048 .f32) (xo9 : Vec Ideal S512x2048 .f32) (xs0 : Vec Ideal S512x2048 .bf16)

/-- One strip of 256 hidden columns of a chunk: the printed inner products at row `p` and column `q`. -/
def slab (a : Fin 2048 → EReal) {n : ℕ} (g u : FVec Ideal ⟨2, ![2048, n]⟩ .bf16) (d : FVec Ideal ⟨2, ![n, 2048]⟩ .bf16) (q : Fin 2048)
    (o : ℕ) (ho : o + 256 ≤ n) : EReal :=
  ∑ j : Fin 256, Swiglu.unit a (fun k => g (ix2 k ⟨o + j.val, by omega⟩)) (fun k => u (ix2 k ⟨o + j.val, by omega⟩))
    * d (ix2 ⟨o + j.val, by omega⟩ q)

/-- The four strips of a chunk, added one after another to `T`. -/
def chunk (T : EReal) (a : Fin 2048 → EReal) (x2 x3 : Vec Ideal S2048x1024 .bf16) (x4 : Vec Ideal S1024x2048 .bf16) (q : Fin 2048) : EReal :=
  T + slab a x2 x3 x4 q 0 (by decide) + slab a x2 x3 x4 q 256 (by decide) + slab a x2 x3 x4 q 512 (by decide)
    + slab a x2 x3 x4 q 768 (by decide)

/-- A middle chunk adds its four strips to the block it finds. -/
theorem out_B (hc0 : ¬cond0_0 i) (hc1 : cond0_1 i) (hc2 : ¬cond0_2 i) (p : Fin 512) (q : Fin 2048) :
    out0_B_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0 (ix2 p q)
      = chunk (xo9 (ix2 p q)) (fun k => xs0 (ix2 p k)) x2 x3 x4 q := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz]
  unfold_payloads
  pointwise
  simp only [chunk, slab, Swiglu.unit, Nat.zero_add]

/-- The first step of a row block fills the scratch with the normalised rows. -/
theorem sout_A (hc0 : cond0_0 i) (hc1 : ¬cond0_1 i) (hc2 : ¬cond0_2 i) (p : Fin 512) (q : Fin 2048) :
    sout0_A_0 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 (ix2 p q)
      = Swiglu.norm (fun k => x0 (ix2 p k)) (fun k => x1 (ix2 0 k)) q := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz]
  unfold_payloads
  pointwise
  rfl

/-- The normalised rows of a block, as the scratch holds them. -/
def normed (x0 : Vec Ideal S512x2048 .f32) (x1 : Vec Ideal S1x2048 .f32) (p : Fin 512) (k : Fin 2048) : EReal :=
  Swiglu.norm (fun k => x0 (ix2 p k)) (fun k => x1 (ix2 0 k)) k

/-- The first step of a row block leaves the two strips of the last 512 columns, then the first chunk's four. -/
theorem out_A (hc0 : cond0_0 i) (hc1 : ¬cond0_1 i) (hc2 : ¬cond0_2 i) (p : Fin 512) (q : Fin 2048) :
    out0_A_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 (ix2 p q)
      = chunk (slab (normed x0 x1 p) x5 x6 x7 q 0 (by decide) + slab (normed x0 x1 p) x5 x6 x7 q 256 (by decide)) (normed x0 x1 p) x2 x3 x4 q := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun0_A
  dsimp only
  sl_unfold_words
  simp only [View.readCov_unit_zero (S := S512x2048) _ hz, View.canon_cons_unit_zero (S := S512x2048) hz, readCov_whole,
    View.canon_unit_zero (S := S512x2048) hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz, View.ld_unit_zero (S := S1x2048) hz]
  have hN : ∀ (p : Fin 512) (k : Fin 2048), k0_pay4 (F := Ideal) x0 x1 (ix2 p k) = normed x0 x1 p k := by
    intro p k
    unfold_payloads
    pointwise
    rfl
  revert hN
  generalize k0_pay4 (F := Ideal) x0 x1 = N
  intro hN
  unfold_payloads
  pointwise
  simp only [hN, chunk, slab, Swiglu.unit, Nat.zero_add, zero_add]

/-- What the last step makes of a block whose accumulated sums are `A`: each row normalised, half of it added to the row of `x0`. -/
def epi (A x0 : Vec Ideal S512x2048 .f32) (x8 : Vec Ideal S1x2048 .f32) : Vec Ideal S512x2048 .f32 := fun y =>
  x0 y + A y * Swiglu.scale (fun k => A (ix2 (y 0) k)) * (Ideal.ofBits .f32 0x3F000000#32 * x8 (ix2 0 (y 1)))

/-- A strip of 128 rows, placed in its block. -/
theorem emb_strip (o : ℕ) (inb : ∀ a, ![o, 0] a + ![128, 2048] a ≤ S512x2048.size a) (r : Fin 128) (q : Fin 2048) (h : o + r.val < 512) :
    (Rect.unit (s := S512x2048) ![o, 0] ![128, 2048] inb).emb (ix2 r q) = ix2 ⟨o + r.val, h⟩ q := by
  funext a
  refine Fin.ext ((Rect.emb_apply _ _ _).trans ?_)
  fin_cases a
  · show o + 1 * r.val = o + r.val
    omega
  · show 0 + 1 * q.val = q.val
    omega

/-- A row lies in the strip of 128 rows that begins at `o`. -/
theorem mem_strip (o : ℕ) (inb : ∀ a, ![o, 0] a + ![128, 2048] a ≤ S512x2048.size a) (p : Fin 512) (q : Fin 2048) (h : o ≤ p.val) (h' : p.val < o + 128) :
    ix2 p q ∈ (Rect.unit (s := S512x2048) ![o, 0] ![128, 2048] inb).set := by
  have e : ix2 p q = (Rect.unit (s := S512x2048) ![o, 0] ![128, 2048] inb).emb (ix2 ⟨p.val - o, by omega⟩ q) := by
    rw [emb_strip o inb _ q (by simp only; omega)]
    congr 1
    apply Fin.ext
    simp only
    omega
  rw [e, ← Rect.map_emb_univ]
  exact Finset.mem_map_of_mem _ (Finset.mem_univ _)

/-- The last step adds its four strips and then finishes the block strip by strip of 128 rows. -/
theorem out_C (hc0 : ¬cond0_0 i) (hc1 : ¬cond0_1 i) (hc2 : cond0_2 i) (p : Fin 512) (q : Fin 2048) :
    out0_C_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0 (ix2 p q)
      = epi (fun y => chunk (xo9 y) (fun k => xs0 (ix2 (y 0) k)) x2 x3 x4 (y 1)) x0 x8 (ix2 p q) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0)]
  unfold kernelRun0_C
  dsimp only
  sl_unfold_words
  simp only [View.readCov_unit_zero (S := S512x2048) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz, View.ld_unit_zero (S := S1x2048) hz]
  generalize hA : k0_pay34 (F := Ideal) _ _ _ _ _ _ _ _ _ _ _ _ = A
  have hA' : A = fun y => chunk (xo9 y) (fun k => xs0 (ix2 (y 0) k)) x2 x3 x4 (y 1) := by
    rw [← hA]
    funext y
    obtain ⟨p, q, rfl⟩ : ∃ (p : Fin 512) (q : Fin 2048), y = ix2 p q := ⟨y 0, y 1, (ix2_eta y).symm⟩
    unfold_payloads
    pointwise
    simp only [chunk, slab, Swiglu.unit, Nat.zero_add]
  rw [← hA']
  clear hA hA'
  simp (config := {decide := true}) only [↓View.readCov_skip, readCov_rows]
  refine (View.canon_append_of_piecesOf (epi A x0 x8) [_] [_, _, _, _] ⟨?_, ?_, ?_, ?_, trivial⟩ (ix2 p q) ?_)
  · intro x
    obtain ⟨r, q, rfl⟩ : ∃ (r : Fin 128) (q : Fin 2048), x = ix2 r q := ⟨x 0, x 1, (ix2_eta x).symm⟩
    refine Eq.trans ?_ (congrArg (epi A x0 x8) (emb_strip 384 inb_S512x2048_S128x2048_384_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x8) (emb_strip 256 inb_S512x2048_S128x2048_256_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x8) (emb_strip 128 inb_S512x2048_S128x2048_128_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x8) (emb_strip 0 inb_S512x2048_S128x2048_0_0 r q (by omega))).symm
    unfold_payloads
    pointwise
    rfl
  · rcases (by omega : p.val < 128 ∨ (128 ≤ p.val ∧ p.val < 256) ∨ (256 ≤ p.val ∧ p.val < 384) ∨ 384 ≤ p.val) with h | h | h | h
    · exact ⟨_, List.mem_cons_of_mem _ (List.mem_cons_of_mem _ (List.mem_cons_of_mem _ List.mem_cons_self)), mem_strip 0 inb_S512x2048_S128x2048_0_0 p q (by omega) (by omega)⟩
    · exact ⟨_, List.mem_cons_of_mem _ (List.mem_cons_of_mem _ List.mem_cons_self), mem_strip 128 inb_S512x2048_S128x2048_128_0 p q (by omega) (by omega)⟩
    · exact ⟨_, List.mem_cons_of_mem _ List.mem_cons_self, mem_strip 256 inb_S512x2048_S128x2048_256_0 p q (by omega) (by omega)⟩
    · exact ⟨_, List.mem_cons_self, mem_strip 384 inb_S512x2048_S128x2048_384_0 p q (by omega) (by omega)⟩

end Cert.Kernel2Ideal.Cases

end
-- ==== Proof.Ffn1Value.lean ====
/-
  The array the first feed-forward call returns, entry by entry: the block of a row after each of its five steps is the
  tail's terms and the terms of the chunks so far, and the last step turns the whole sum into the branch.
-/
module

public import proofs.«01_k».proof.Proof.Ffn1Blocks
public import proofs.«01_k».proof.Proof.Ffn1Cases
public import proofs.«01_k».proof.Proof.Gen.Kernel2Ideal.Value

@[expose] public section

set_option maxRecDepth 16384

noncomputable section

namespace Cert.Kernel2Ideal.Blocks

open Cert Cert.Kernel2Ideal Cert.Kernel2Ideal.Gen Cert.Kernel2Ideal.Cases Idealize.ShloMosaic Idealize.ShloMosaic.TcCoe Idealize.SL.Sem

variable (m : (ℓ : Loc nD τ sig) → Buf (Elt Ideal) ℓ) (c : Dev nD)

/-- The gate's weights, a hidden column at a time. -/
abbrev gate (j : Fin 5632) (k : Fin 2048) : EReal := G m c (ix2 k j)
/-- The other factor's weights, a hidden column at a time. -/
abbrev up (j : Fin 5632) (k : Fin 2048) : EReal := U m c (ix2 k j)
/-- The weights back, a hidden column at a time. -/
abbrev down (j : Fin 5632) (q : Fin 2048) : EReal := D m c (ix2 j q)
/-- Row `r`. -/
abbrev xrow (r : Fin 8192) (k : Fin 2048) : EReal := X m c (ix2 r k)
/-- Row `r`, normalised. -/
abbrev nrow (r : Fin 8192) : Fin 2048 → EReal := Swiglu.norm (xrow m c r) (pre m c)
/-- The terms of row `r` for output column `q`. -/
abbrev terms (r : Fin 8192) (q : Fin 2048) : ℕ → EReal := Swiglu.termN (nrow m c r) (gate m c) (up m c) (down m c) q

/-- A strip of the chunk's columns is a strip of terms. -/
theorem slab_chunk (t : Fin cfg0.N) (r : Fin 8192) (q : Fin 2048) (o : ℕ) (ho : o + 256 ≤ 1024) :
    slab (nrow m c r) (X0_2 m c t) (X0_3 m c t) (X0_4 m c t) q o ho = Swiglu.strip (terms m c r q) (t.val % 5 * 1024 + o) := by
  have h5 : t.val % 5 < 5 := Nat.mod_lt _ (by decide)
  exact Swiglu.strip_congr _ _ _ _ q (t.val % 5 * 1024 + o) (by omega) _ _ _
    (fun j k => blk_2 m c t k _ _ (by simp only; omega)) (fun j k => blk_3 m c t k _ _ (by simp only; omega))
    (fun j => blk_4 m c t _ q _ (by simp only; omega))

/-- A strip of the last 512 columns is a strip of terms. -/
theorem slab_tail (t : Fin cfg0.N) (r : Fin 8192) (q : Fin 2048) (o : ℕ) (ho : o + 256 ≤ 512) :
    slab (nrow m c r) (iblk m c 5 t) (iblk m c 6 t) (iblk m c 7 t) q o ho = Swiglu.strip (terms m c r q) (5120 + o) :=
  Swiglu.strip_congr _ _ _ _ q (5120 + o) (by omega) _ _ _
    (fun j k => blk_5 m c t k _ _ (by simp only; omega)) (fun j k => blk_6 m c t k _ _ (by simp only; omega))
    (fun j => blk_7 m c t q _ _ (by simp only; omega))

/-- A chunk's four strips after the tail and the chunks before are the tail and the chunks so far. -/
theorem chunk_eq (t : Fin cfg0.N) (r : Fin 8192) (q : Fin 2048) (T : EReal) :
    chunk (T + ∑ j ∈ Finset.range (t.val % 5 * 1024), terms m c r q j) (nrow m c r) (X0_2 m c t) (X0_3 m c t) (X0_4 m c t) q
      = T + ∑ j ∈ Finset.range (t.val % 5 * 1024 + 1024), terms m c r q j := by
  unfold chunk
  simp only [slab_chunk]
  exact Swiglu.chunk_step _ _ _ _ q T _

/-- The normalised block, row by row. -/
theorem normed_eq (t : Fin cfg0.N) (p : Fin 512) (r : Fin 8192) (hr : r.val = t.val / 5 * 512 + 1024 + p.val) :
    normed (iblk m c 0 t) (iblk m c 1 t) p = nrow m c r := by
  funext k
  unfold normed
  simp only [blk_0 m c t p _ r hr, blk_1 m c t]

/-- The terms of row `r` after `n` columns and the tail. -/
abbrev sofar (r : Fin 8192) (q : Fin 2048) (n : ℕ) : EReal :=
  Swiglu.tail (nrow m c r) (gate m c) (up m c) (down m c) q + ∑ j ∈ Finset.range n, terms m c r q j

/-- The first step of a row block. -/
theorem sweep_first (t : Fin cfg0.N) (h0 : t.val % 5 = 0) (p : Fin 512) (r : Fin 8192) (hr : r.val = t.val / 5 * 512 + 1024 + p.val) :
    (∀ q : Fin 2048, (outsAt0 m c t.val t.isLt).2 (ix2 p q) = nrow m c r q)
    ∧ ∀ q : Fin 2048, (outsAt0 m c t.val t.isLt).1 (ix2 p q) = sofar m c r q (t.val % 5 * 1024 + 1024) := by
  have hn := normed_eq m c t p r hr
  rw [outsAt0_A m c t h0 (by omega) (by omega)]
  constructor
  · intro q
    dsimp only
    rw [sout_A]
    exact congrFun hn q
  · intro q
    dsimp only
    rw [out_A]
    rw [hn]
    have ht := chunk_eq m c t r q (Swiglu.tail (nrow m c r) (gate m c) (up m c) (down m c) q)
    refine Eq.trans ?_ ht
    simp only [slab_tail, h0, Nat.zero_mul, Finset.range_zero, Finset.sum_empty, add_zero, Swiglu.tail_eq, Nat.reduceAdd]

/-- A later step short of the last, from the step before. -/
theorem sweep_next (t : Fin cfg0.N) (h1 : 1 ≤ t.val % 5 ∧ t.val % 5 ≤ 3) (p : Fin 512) (r : Fin 8192) (a : Fin 2048 → EReal)
    (T : Fin 2048 → EReal) (ha : a = nrow m c r)
    (h : ∀ q : Fin 2048, (outsAt0 m c (t.val - 1) (Nat.lt_of_le_of_lt (Nat.sub_le _ _) t.isLt)).2 (ix2 p q) = a q)
    (h' : ∀ q : Fin 2048, (outsAt0 m c (t.val - 1) (Nat.lt_of_le_of_lt (Nat.sub_le _ _) t.isLt)).1 (ix2 p q) = sofar m c r q (t.val % 5 * 1024)) :
    (∀ q : Fin 2048, (outsAt0 m c t.val t.isLt).2 (ix2 p q) = nrow m c r q)
    ∧ ∀ q : Fin 2048, (outsAt0 m c t.val t.isLt).1 (ix2 p q) = sofar m c r q (t.val % 5 * 1024 + 1024) := by
  subst ha
  rw [outsAt0_B m c t (by omega) h1 (by omega)]
  constructor
  · intro q
    exact h q
  · intro q
    dsimp only
    rw [out_B]
    rw [h' q, show (fun k => (outsAt0 m c (t.val - 1) (Nat.lt_of_le_of_lt (Nat.sub_le _ _) t.isLt)).2 (ix2 p k)) = nrow m c r from funext h]
    exact chunk_eq m c t r q _

/-- After a step short of the last: the normalised rows in the carried scratch, the terms so far in the block. -/
theorem sweep (n : ℕ) (hn : n < cfg0.N) (h4 : n % 5 < 4) (p : Fin 512) (r : Fin 8192) (hr : r.val = n / 5 * 512 + 1024 + p.val) :
    (∀ q : Fin 2048, (outsAt0 m c n hn).2 (ix2 p q) = nrow m c r q)
    ∧ ∀ q : Fin 2048, (outsAt0 m c n hn).1 (ix2 p q) = sofar m c r q (n % 5 * 1024 + 1024) := by
  induction n with
  | zero => exact sweep_first m c ⟨0, hn⟩ rfl p r hr
  | succ n ih =>
    by_cases h0 : (n + 1) % 5 = 0
    · exact sweep_first m c ⟨n + 1, hn⟩ h0 p r hr
    · have hd : n / 5 = (n + 1) / 5 := by omega
      have hm : n % 5 * 1024 + 1024 = (n + 1) % 5 * 1024 := by omega
      obtain ⟨h, h'⟩ := ih (Nat.lt_of_succ_lt hn) (by omega) (by rw [hd]; exact hr)
      rw [hm] at h'
      exact sweep_next m c ⟨n + 1, hn⟩ ⟨by simp only; omega, by simp only; omega⟩ p r _ (nrow m c r) rfl h h'

/-- The last step of a row block: the branch of the row. -/
theorem sweep_last (t : Fin cfg0.N) (h4 : t.val % 5 = 4) (p : Fin 512) (r : Fin 8192) (hr : r.val = t.val / 5 * 512 + 1024 + p.val) (q : Fin 2048) :
    (outsAt0 m c t.val t.isLt).1 (ix2 p q)
      = Swiglu.branch (xrow m c r) (pre m c) (post m c) (gate m c) (up m c) (down m c) q := by
  obtain ⟨h, h'⟩ := sweep m c (t.val - 1) (Nat.lt_of_le_of_lt (Nat.sub_le _ _) t.isLt) (by omega) p r (by omega)
  have hm : (t.val - 1) % 5 * 1024 + 1024 = t.val % 5 * 1024 := by omega
  rw [hm] at h'
  have hA : ∀ k : Fin 2048, chunk ((outsAt0 m c (t.val - 1) (Nat.lt_of_le_of_lt (Nat.sub_le _ _) t.isLt)).1 (ix2 p k))
      (fun k => (outsAt0 m c (t.val - 1) (Nat.lt_of_le_of_lt (Nat.sub_le _ _) t.isLt)).2 (ix2 p k)) (X0_2 m c t) (X0_3 m c t) (X0_4 m c t) k
      = Swiglu.hidden (nrow m c r) (gate m c) (up m c) (down m c) k := by
    intro k
    rw [h' k, show (fun k => (outsAt0 m c (t.val - 1) (Nat.lt_of_le_of_lt (Nat.sub_le _ _) t.isLt)).2 (ix2 p k)) = nrow m c r from funext h]
    refine (chunk_eq m c t r k _).trans ?_
    rw [h4]
    exact Swiglu.tail_add_below _ _ _ _ k
  rw [outsAt0_C m c t (by omega) (by omega) h4]
  dsimp only
  rw [out_C]
  unfold epi
  show (_ : EReal) + chunk ((outsAt0 m c (t.val - 1) _).1 (ix2 p q)) (fun k => (outsAt0 m c (t.val - 1) _).2 (ix2 p k)) _ _ _ q
      * Swiglu.scale (fun k => chunk ((outsAt0 m c (t.val - 1) _).1 (ix2 p k)) (fun k => (outsAt0 m c (t.val - 1) _).2 (ix2 p k)) _ _ _ k) * (_ * iblk m c 8 t (ix2 0 q)) = _
  rw [hA q, funext hA, blk_0 m c t p q r hr, blk_8 m c t q]
  rfl

/-- The array the call leaves, at an entry. -/
theorem G9_apply (r : Fin 7168) (q : Fin 2048) :
    Value.G9 m c (ix2 r q) = Swiglu.branch (xrow m c ⟨r.val + 1024, by omega⟩) (pre m c) (post m c) (gate m c) (up m c) (down m c) q := by
  have hp : Value.pt9Of (ix2 r q) = r.val / 512 * 5 + 4 := by
    show 5 * (1 * (r.val / 512 - 0) + 1 * (q.val / 2048 - 0)) + 4 = _
    omega
  have hlt : Value.pt9Of (ix2 r q) < cfg0.N := by
    rw [hp, show cfg0.N = 70 from N_0]
    omega
  unfold Value.G9
  rw [dif_pos hlt, ← Value.outsAt0_sweep m c _ hlt]
  have e := sweep_last m c ⟨Value.pt9Of (ix2 r q), hlt⟩ (by simp only [hp]; omega) ⟨r.val % 512, Nat.mod_lt _ (by decide)⟩ ⟨r.val + 1024, by omega⟩
    (by simp only [hp]; omega) q
  refine Eq.trans (congrArg _ ?_) e
  funext a
  apply Fin.ext
  match a with
  | ⟨0, _⟩ => rfl
  | ⟨1, _⟩ => show q.val % 2048 = q.val; omega

end Cert.Kernel2Ideal.Blocks

end
-- ==== Proof.Ffn1Reference.lean ====
/-
  The first feed-forward block's reference, read at an entry.
-/
module

public import proofs.«01_k».proof.Proof.Swiglu
public import proofs.«01_k».proof.Proof.Gen.Reference2Ideal.Run
public import Idealize.ShloMosaic.Lib.Pointwise

@[expose] public section

set_option maxRecDepth 16384

noncomputable section

namespace Cert.Reference2Ideal.Entry

open Cert Cert.Reference2Ideal Cert.Reference2Ideal.Gen Idealize.ShloMosaic Idealize.ShloMosaic.TcCoe Idealize.SL.Sem

/-- The reference's root-mean-square normalisation of every row, with a gain. -/
def rms (x : FVec Ideal S8192x2048 .f32) (g : FVec Ideal S2048 .f32) : FVec Ideal S8192x2048 .f32 :=
  mulf (mulf x (broadcastInDim S8192x2048 ![0, 1] bcast_S8192x1_S8192x2048_0_1
    (Host.rsqrt (addf (Host.divf (broadcastInDim S8192x1 ![0] bcast_S8192_S8192x1_0
        (Host.reduceAdd (mulf x x) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- An inner product of every row with every hidden column. -/
def proj (a : FVec Ideal S8192x2048 .f32) (w : FVec Ideal S2048x5632 .f32) : FVec Ideal S8192x5632 .f32 :=
  Host.dotGeneral dot_S8192x2048_S2048x5632_S8192x5632_1_0_0_1_n_n none a w

/-- An array times its logistic, as the reference spells it. -/
def silu (h : FVec Ideal S8192x5632 .f32) : FVec Ideal S8192x5632 .f32 :=
  mulf h (Host.divf (broadcastInDim S8192x5632 ![] bcast_S_S8192x5632 (constant S_ .f32 0x3F800000#32))
    (addf (broadcastInDim S8192x5632 ![] bcast_S_S8192x5632 (constant S_ .f32 0x3F800000#32)) (Host.exp (Host.negf h))))

/-- The gated block of every row. -/
def gated (a : FVec Ideal S8192x2048 .f32) (wg wu : FVec Ideal S2048x5632 .f32) (wd : FVec Ideal S5632x2048 .f32) :
    FVec Ideal S8192x2048 .f32 :=
  Host.dotGeneral dot_S8192x5632_S5632x2048_S8192x2048_1_0_0_1_n_n none (mulf (silu (proj a wg)) (proj a wu)) wd

/-- The normalisation at an entry. -/
theorem rms_apply (x : FVec Ideal S8192x2048 .f32) (g : FVec Ideal S2048 .f32) (r : Fin 8192) (k : Fin 2048) :
    rms x g (ix2 r k) = Swiglu.norm (fun k => x (ix2 r k)) (fun k => g (ix1 k)) k := by
  unfold rms Swiglu.norm Swiglu.scale
  pointwise

/-- An inner product at an entry. -/
theorem proj_apply (a : FVec Ideal S8192x2048 .f32) (w : FVec Ideal S2048x5632 .f32) (r : Fin 8192) (j : Fin 5632) :
    proj a w (ix2 r j) = ∑ k : Fin 2048, a (ix2 r k) * w (ix2 k j) := by
  unfold proj
  pointwise

/-- The gate at an entry. -/
theorem silu_apply (h : FVec Ideal S8192x5632 .f32) (r : Fin 8192) (j : Fin 5632) :
    silu h (ix2 r j) = h (ix2 r j) * Ideal.logistic (h (ix2 r j)) := by
  unfold silu Ideal.logistic
  pointwise

/-- The gated block at an entry. -/
theorem gated_apply (a : FVec Ideal S8192x2048 .f32) (wg wu : FVec Ideal S2048x5632 .f32) (wd : FVec Ideal S5632x2048 .f32)
    (r : Fin 8192) (q : Fin 2048) :
    gated a wg wu wd (ix2 r q)
      = Swiglu.hidden (fun k => a (ix2 r k)) (fun j k => wg (ix2 k j)) (fun j k => wu (ix2 k j)) (fun j q => wd (ix2 j q)) q := by
  unfold gated Swiglu.hidden Swiglu.unit
  pointwise
  simp only [silu_apply, proj_apply]

variable (m : (ℓ : Loc nD τ sig) → Buf (Elt Ideal) ℓ) (c : Dev nD)

/-- The reference's result, in the steps above. -/
theorem result_eq :
    Value.res_out0 (F := Ideal) m c
      = extractStridedSlice S7168x2048 ![1024, 0] (addf (shapeCast S8192x2048 (m ((c.tc : Thread nD τ).loc main_arg0)) shapeCasts_S4x2048x2048_S8192x2048 : FVec Ideal S8192x2048 .f32)
          (mulf (broadcastInDim S8192x2048 ![] bcast_S_S8192x2048 (constant S_ .f32 0x3F000000#32))
            (rms (gated (rms (shapeCast S8192x2048 (m ((c.tc : Thread nD τ).loc main_arg0)) shapeCasts_S4x2048x2048_S8192x2048)
                  (shapeCast S2048 (m ((c.tc : Thread nD τ).loc main_arg1)) shapeCasts_S1x2048_S2048))
                (shapeCast S2048x5632 (m ((c.tc : Thread nD τ).loc main_arg2)) shapeCasts_S1x2048x5632_S2048x5632)
                (shapeCast S2048x5632 (m ((c.tc : Thread nD τ).loc main_arg3)) shapeCasts_S1x2048x5632_S2048x5632)
                (shapeCast S5632x2048 (m ((c.tc : Thread nD τ).loc main_arg4)) shapeCasts_S1x5632x2048_S5632x2048))
              (shapeCast S2048 (m ((c.tc : Thread nD τ).loc main_arg5)) shapeCasts_S1x2048_S2048)))) slices_S8192x2048_S7168x2048_1024_0 := rfl

/-- The reference's result at an entry: the branch of its row. -/
theorem result_apply (r : Fin 7168) (q : Fin 2048) :
    (Value.res_out0 (F := Ideal) m c : FVec Ideal S7168x2048 .f32) (ix2 r q)
      = Swiglu.branch
          (fun k => (shapeCast S8192x2048 (m ((c.tc : Thread nD τ).loc main_arg0)) shapeCasts_S4x2048x2048_S8192x2048 : FVec Ideal S8192x2048 .f32) (ix2 ⟨r.val + 1024, by omega⟩ k))
          (fun k => (shapeCast S2048 (m ((c.tc : Thread nD τ).loc main_arg1)) shapeCasts_S1x2048_S2048 : FVec Ideal S2048 .f32) (ix1 k))
          (fun k => (shapeCast S2048 (m ((c.tc : Thread nD τ).loc main_arg5)) shapeCasts_S1x2048_S2048 : FVec Ideal S2048 .f32) (ix1 k))
          (fun j k => (shapeCast S2048x5632 (m ((c.tc : Thread nD τ).loc main_arg2)) shapeCasts_S1x2048x5632_S2048x5632 : FVec Ideal S2048x5632 .f32) (ix2 k j))
          (fun j k => (shapeCast S2048x5632 (m ((c.tc : Thread nD τ).loc main_arg3)) shapeCasts_S1x2048x5632_S2048x5632 : FVec Ideal S2048x5632 .f32) (ix2 k j))
          (fun j q => (shapeCast S5632x2048 (m ((c.tc : Thread nD τ).loc main_arg4)) shapeCasts_S1x5632x2048_S5632x2048 : FVec Ideal S5632x2048 .f32) (ix2 j q))
          q := by
  rw [result_eq]
  have e : (fun A : FVec Ideal S8192x2048 .f32 => extractStridedSlice S7168x2048 ![1024, 0] A slices_S8192x2048_S7168x2048_1024_0 (ix2 r q))
      = fun A => A (ix2 ⟨r.val + 1024, by omega⟩ q) := by
    funext A
    pointwise
    congr 2
    exact Fin.ext (Nat.add_comm _ _)
  refine (congrFun e _).trans ?_
  rw [addf_apply, mulf_apply, rms_apply]
  simp only [gated_apply, rms_apply]
  unfold Swiglu.branch
  exact congrArg _ (mul_left_comm _ _ _)

end Cert.Reference2Ideal.Entry

end
-- ==== Proof.Ffn1.lean ====
/-
  The first feed-forward call and its reference give the same array.
-/
module

public import proofs.«01_k».proof.Defs
public import proofs.«01_k».proof.Proof.Ffn1Value
public import proofs.«01_k».proof.Proof.Ffn1Reference

@[expose] public section

noncomputable section

namespace Cert.Ffn1

open Cert Idealize.ShloMosaic Idealize.ShloMosaic.TcCoe Idealize.SL.Sem

/-- On memories with equal arguments the reference's array is the kernel's. -/
theorem values_eq
    (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4))
    (h5 : m' ((c.tc : Thread Reference2Ideal.nD Reference2Ideal.τ).loc Reference2Ideal.main_arg5) = m ((c.tc : Thread Kernel2Ideal.nD Kernel2Ideal.τ).loc Kernel2Ideal.main_arg5)) :
    (Reference2Ideal.Value.res_out0 (F := Ideal) m' c : FVec Ideal Kernel2Ideal.S7168x2048 .f32) = Kernel2Ideal.Value.G9 m c := by
  funext y
  obtain ⟨r, q, rfl⟩ : ∃ (r : Fin 7168) (q : Fin 2048), y = ix2 r q := ⟨y 0, y 1, (ix2_eta y).symm⟩
  refine (Reference2Ideal.Entry.result_apply m' c r q).trans (Eq.trans ?_ (Kernel2Ideal.Blocks.G9_apply m c r q).symm)
  rw [h0, h1, h2, h3, h4, h5]
  rfl

/-- Kernel and reference compute the same function over the extended reals. -/
theorem algebraic : algebraic_Kernel2Ideal_Reference2Ideal := by
  intro m ρ m' ρ' _ hagree
  refine ⟨_, Kernel2Ideal.Value.run (F := Ideal) m ρ, ?_⟩
  refine (θ_run Reference2Ideal.defs _ _).mono (fun _ h c => ⟨?_, (h c).2⟩) (Reference2Ideal.Value.run (F := Ideal) m' ρ')
  obtain ⟨h0, h1, h2, h3, h4, h5⟩ := hagree c
  exact (h c).1.trans (values_eq m m' c h0 h1 h2 h3 h4 h5)

end Cert.Ffn1

end
-- ==== Proof.HeadRun.lean ====
/-
  What the body of the first 1024 rows' feed-forward call does at a grid step, over any float values.
-/
module

public import proofs.«01_k».proof.Proof.Gen.Kernel3Ideal.Frame
public import proofs.«01_k».proof.Proof.Gen.Kernel3Ideal.Skeleton
public import Idealize.ShloMosaic.Lib.Claim
public import Idealize.ShloMosaic.Lib.Pipeline.Value
public import Idealize.ShloMosaic.Lib.Pipeline.ReadBack
public import Idealize.ShloMosaic.Lib.Tactic

@[expose] public section

set_option maxRecDepth 16384

noncomputable section

namespace Cert.Kernel3Ideal.Head

open Cert Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The zero offset, spelt two ways. -/
theorem hz : (![0, 0] : Fin 2 → Nat) = fun _ => 0 := funext fun a => by fin_cases a <;> rfl

/-- A buffer whose last store was of the whole block holds what was stored. -/
theorem stored {sp : Space} {S : Shape} {e : EltTy} {off : Fin S.rank → Nat} (h : off = fun _ => 0) (v : View sig .tc sp S e) (f : v.ty.Contents (Elt F))
    (inb : ∀ a, off a + S.size a ≤ S.size a) (Z : S.Idx → Elt F e) (L : List (View.Piece (Elt F) S e)) :
    v.read (Elt F) (v.writes (Elt F) f (⟨Rect.unit off S.size inb, Z⟩ :: L)) = Z := by
  subst h
  rw [View.read_writes_eq_canon _ _ _ (fun y => ⟨_, List.mem_cons_self, by
    show y ∈ (Rect.whole S).set; rw [Rect.set_whole]; exact Finset.mem_univ y⟩), View.canon_cons_unit_zero rfl]

/-- What one strip of hidden columns makes of the sums `acc`, from the normalised rows `xn`. -/
def mid (x2 x3 : Vec F S2048x256 .f32) (x4 : Vec F S256x2048 .f32) (xn : Vec F S1024x2048 .bf16) (acc : Vec F S1024x2048 .f32) : Vec F S1024x2048 .f32 :=
  k0_pay1 (k0_pay19 x4) acc (k0_pay20 x2 x3 xn)

/-- The condition of the body's first branch: the first step. -/
abbrev cond0_0 (i : grid0.Coords) : Prop := (Scalar.cmpi .ne (Scalar.extui (Scalar.cmpi .eq (BitVec.ofNat 32 (i 0).val) 0#32)) 0#32) = 1#1
/-- The condition of the body's second branch: a step that casts a strip of the first weight. -/
abbrev cond0_1 (i : grid0.Coords) : Prop := k0_cond2 i = 1#1
/-- The condition of the body's third branch: a step that casts a strip of the second weight. -/
abbrev cond0_2 (i : grid0.Coords) : Prop := k0_cond3 i = 1#1
/-- The condition of the body's last branch: the last step. -/
abbrev cond0_3 (i : grid0.Coords) : Prop := k0_cond4 i = 1#1

/-- What the last step stores into the result's block, strip by strip of 128 rows, the last strip first. -/
def strips (A x0 : Vec F S1024x2048 .f32) (x5 : Vec F S1x2048 .f32) : List (View.Piece (Elt F) S1024x2048 .f32) :=
  [⟨Rect.unit (s := S1024x2048) ![896, 0] ![128, 2048] inb_S1024x2048_S128x2048_896_0,
      k0_pay3 (k0_pay4 A) (k0_pay5 x5) (View.ld x0 (Rect.unit (s := S1024x2048) ![896, 0] ![128, 2048] inb_S1024x2048_S128x2048_896_0)) (View.ld A (Rect.unit (s := S1024x2048) ![896, 0] ![128, 2048] inb_S1024x2048_S128x2048_896_0))⟩,
    ⟨Rect.unit (s := S1024x2048) ![768, 0] ![128, 2048] inb_S1024x2048_S128x2048_768_0,
      k0_pay2 (k0_pay4 A) (k0_pay5 x5) (View.ld x0 (Rect.unit (s := S1024x2048) ![768, 0] ![128, 2048] inb_S1024x2048_S128x2048_768_0)) (View.ld A (Rect.unit (s := S1024x2048) ![768, 0] ![128, 2048] inb_S1024x2048_S128x2048_768_0))⟩,
    ⟨Rect.unit (s := S1024x2048) ![640, 0] ![128, 2048] inb_S1024x2048_S128x2048_640_0,
      k0_pay12 (k0_pay4 A) (k0_pay5 x5) (View.ld x0 (Rect.unit (s := S1024x2048) ![640, 0] ![128, 2048] inb_S1024x2048_S128x2048_640_0)) (View.ld A (Rect.unit (s := S1024x2048) ![640, 0] ![128, 2048] inb_S1024x2048_S128x2048_640_0))⟩,
    ⟨Rect.unit (s := S1024x2048) ![512, 0] ![128, 2048] inb_S1024x2048_S128x2048_512_0,
      k0_pay11 (k0_pay4 A) (k0_pay5 x5) (View.ld x0 (Rect.unit (s := S1024x2048) ![512, 0] ![128, 2048] inb_S1024x2048_S128x2048_512_0)) (View.ld A (Rect.unit (s := S1024x2048) ![512, 0] ![128, 2048] inb_S1024x2048_S128x2048_512_0))⟩,
    ⟨Rect.unit (s := S1024x2048) ![384, 0] ![128, 2048] inb_S1024x2048_S128x2048_384_0,
      k0_pay10 (k0_pay4 A) (k0_pay5 x5) (View.ld x0 (Rect.unit (s := S1024x2048) ![384, 0] ![128, 2048] inb_S1024x2048_S128x2048_384_0)) (View.ld A (Rect.unit (s := S1024x2048) ![384, 0] ![128, 2048] inb_S1024x2048_S128x2048_384_0))⟩,
    ⟨Rect.unit (s := S1024x2048) ![256, 0] ![128, 2048] inb_S1024x2048_S128x2048_256_0,
      k0_pay9 (k0_pay4 A) (k0_pay5 x5) (k0_pay8 (View.ld x0 (Rect.unit (s := S1024x2048) ![256, 0] ![128, 2048] inb_S1024x2048_S128x2048_256_0))) (View.ld A (Rect.unit (s := S1024x2048) ![256, 0] ![128, 2048] inb_S1024x2048_S128x2048_256_0))⟩,
    ⟨Rect.unit (s := S1024x2048) ![128, 0] ![128, 2048] inb_S1024x2048_S128x2048_128_0,
      k0_pay7 A x5 (View.ld x0 (Rect.unit (s := S1024x2048) ![128, 0] ![128, 2048] inb_S1024x2048_S128x2048_128_0)) (View.ld A (Rect.unit (s := S1024x2048) ![128, 0] ![128, 2048] inb_S1024x2048_S128x2048_128_0))⟩,
    ⟨Rect.unit (s := S1024x2048) ![0, 0] ![128, 2048] inb_S1024x2048_S128x2048_0_0,
      k0_pay6 A x5 (View.ld x0 (Rect.unit (s := S1024x2048) ![0, 0] ![128, 2048] inb_S1024x2048_S128x2048_0_0)) (View.ld A (Rect.unit (s := S1024x2048) ![0, 0] ![128, 2048] inb_S1024x2048_S128x2048_0_0))⟩]

/-- The strips cover the block. -/
theorem strips_cover (A x0 : Vec F S1024x2048 .f32) (x5 : Vec F S1x2048 .f32) (y : S1024x2048.Idx) : ∃ p ∈ strips A x0 x5, y ∈ p.1.set :=
  View.cover_of_tiledL (strips A x0 x5) ![128, 2048] (by sl_kernel_rfl) y

/-- The finished block, from the sums `A` and the rows `x0`. -/
def last (A x0 : Vec F S1024x2048 .f32) (x5 : Vec F S1x2048 .f32) : Vec F S1024x2048 .f32 := View.canon (strips A x0 x5)

/-- A load of a strip of 128 rows after a store of the whole block reads the strip of it. -/
theorem readCov_rows (v : View sig .tc .vmem S1024x2048 .f32) (inb : ∀ a, ![0, 0] a + ![1024, 2048] a ≤ S1024x2048.size a)
    (o : ℕ) (inb' : ∀ a, ![o, 0] a + ![128, 2048] a ≤ S1024x2048.size a) (Z : S1024x2048.Idx → Elt F .f32) (L : List (View.Piece (Elt F) S1024x2048 .f32)) :
    v.readCov (⟨Rect.unit ![0, 0] ![1024, 2048] inb, Z⟩ :: L) (Rect.unit ![o, 0] ![128, 2048] inb').toLoadRect
      = View.ld Z (Rect.unit ![o, 0] ![128, 2048] inb') :=
  View.readCov_fill v inb Z L _ (fun a => by fin_cases a <;> rfl)

/-- A load of the whole block after a store of the whole block reads the store. -/
theorem readCov_whole (v : View sig .tc .vmem S1024x2048 .f32) (inb inb' : ∀ a, ![0, 0] a + ![1024, 2048] a ≤ S1024x2048.size a)
    (Z : S1024x2048.Idx → Elt F .f32) (L : List (View.Piece (Elt F) S1024x2048 .f32)) :
    v.readCov (⟨Rect.unit ![0, 0] ![1024, 2048] inb, Z⟩ :: L) (Rect.unit ![0, 0] ![1024, 2048] inb').toLoadRect = Z :=
  (View.readCov_fill v inb Z L _ (fun a => by fin_cases a <;> rfl)).trans (View.ld_unit_zero (S := S1024x2048) hz _ _)

variable (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S128x4096 .f32) (harg7 : arg7.IsWhole) (arg8 : Memref sig .tc .vmem S64x1024 .f32) (harg8 : arg8.IsWhole) (arg9 : Memref sig .tc .vmem S1024x2048 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S128x4096 .bf16) (harg13 : arg13.IsWhole) (arg14 : Memref sig .tc .vmem S64x1024 .bf16) (harg14 : arg14.IsWhole) (arg15 : Memref sig .tc .vmem S1024x2048 .bf16) (harg15 : arg15.IsWhole) (arg16 : Memref sig .tc .vmem S1024x2048 .f32) (harg16 : arg16.IsWhole)
  (x0 : Vec F S1024x2048 .f32) (x1 : Vec F S1x2048 .f32) (x2 : Vec F S2048x256 .f32) (x3 : Vec F S2048x256 .f32) (x4 : Vec F S256x2048 .f32) (x5 : Vec F S1x2048 .f32) (x6 : Vec F S128x4096 .f32) (x7 : Vec F S64x1024 .f32)

set_option maxHeartbeats 4000000 in
/-- The first step: the scratch gets the normalised rows and the first strip's sums, the weights' strips are cast, the result's block is left alone. -/
theorem run_A (hc0 : cond0_0 i) (hc1 : cond0_1 i) (hc2 : cond0_2 i) (hc3 : ¬cond0_3 i)
    (x8 : Vec F S1024x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay17 x2) ∗ owns (c : Thread nD τ) arg11 fullShare (k0_pay18 x3) ∗ owns (c : Thread nD τ) arg12 fullShare (k0_pay19 x4) ∗ owns (c : Thread nD τ) arg13 fullShare (k0_pay15 x6) ∗ owns (c : Thread nD τ) arg14 fullShare (k0_pay16 x7) ∗ owns (c : Thread nD τ) arg15 fullShare (k0_pay13 x0 x1) ∗ owns (c : Thread nD τ) arg16 fullShare (mid x2 x3 x4 (k0_pay13 x0 x1) k0_pay14)) -∗ K ⟨⟩))
      ⊢ wp frame (wpE (defs₀ (F := F)) Variants.none c none) E (cc0_ffn_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_first_eq_skeleton]; unfold cc0_ffn_first_skel
  simp only [k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1 | sl_exact hc2 | sl_exact hc3)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact (stored (S := S2048x256) hz _ _ _ _ _).trans (by simp only [View.readAt_eq_ld, hf3, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H11]
  · iexists _; isplitr; swap; · iexact H11
    ipureintro; exact (stored (S := S2048x256) hz _ _ _ _ _).trans (by simp only [View.readAt_eq_ld, hf4, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H12]
  · iexists _; isplitr; swap; · iexact H12
    ipureintro; exact (stored (S := S256x2048) hz _ _ _ _ _).trans (by simp only [View.readAt_eq_ld, hf5, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H13]
  · iexists _; isplitr; swap; · iexact H13
    ipureintro; exact (stored (S := S128x4096) hz _ _ _ _ _).trans (by simp only [View.readAt_eq_ld, hf7, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H14]
  · iexists _; isplitr; swap; · iexact H14
    ipureintro; exact (stored (S := S64x1024) hz _ _ _ _ _).trans (by simp only [View.readAt_eq_ld, hf8, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H15]
  · iexists _; isplitr; swap; · iexact H15
    ipureintro; exact (stored (S := S1024x2048) hz _ _ _ _ _).trans (by simp only [View.readAt_eq_ld, hf1, hf2, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  iexists _; isplitr; swap; · iexact H16
  ipureintro; sl_unfold_words
  exact (stored (S := S1024x2048) hz _ _ _ _ _).trans (by simp only [View.readAt_eq_ld, hf1, hf2, hf3, hf4, hf5, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz, View.readCov_unit_zero (S := S1024x2048) _ hz, mid])

set_option maxHeartbeats 4000000 in
/-- A step that casts a strip of each of the two further weights: the strip's sums join the scratch. -/
theorem run_B (hc0 : ¬cond0_0 i) (hc1 : cond0_1 i) (hc2 : cond0_2 i) (hc3 : ¬cond0_3 i)
    (xn : Vec F S1024x2048 .bf16) (acc x8 : Vec F S1024x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xn ∗ owns (c : Thread nD τ) arg16 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay17 x2) ∗ owns (c : Thread nD τ) arg11 fullShare (k0_pay18 x3) ∗ owns (c : Thread nD τ) arg12 fullShare (k0_pay19 x4) ∗ owns (c : Thread nD τ) arg13 fullShare (k0_pay15 x6) ∗ owns (c : Thread nD τ) arg14 fullShare (k0_pay16 x7) ∗ owns (c : Thread nD τ) arg15 fullShare xn ∗ owns (c : Thread nD τ) arg16 fullShare (mid x2 x3 x4 xn acc)) -∗ K ⟨⟩))
      ⊢ wp frame (wpE (defs₀ (F := F)) Variants.none c none) E (cc0_ffn_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_first_eq_skeleton]; unfold cc0_ffn_first_skel
  simp only [k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16
  sl_exec (disch := first | sl_exact hc0 | sl_exact hc1 | sl_exact hc2 | sl_exact hc3)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact (stored (S := S2048x256) hz _ _ _ _ _).trans (by simp only [View.readAt_eq_ld, hf3, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H11]
  · iexists _; isplitr; swap; · iexact H11
    ipureintro; exact (stored (S := S2048x256) hz _ _ _ _ _).trans (by simp only [View.readAt_eq_ld, hf4, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H12]
  · iexists _; isplitr; swap; · iexact H12
    ipureintro; exact (stored (S := S256x2048) hz _ _ _ _ _).trans (by simp only [View.readAt_eq_ld, hf5, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H13]
  · iexists _; isplitr; swap; · iexact H13
    ipureintro; exact (stored (S := S128x4096) hz _ _ _ _ _).trans (by simp only [View.readAt_eq_ld, hf7, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H14]
  · iexists _; isplitr; swap; · iexact H14
    ipureintro; exact (stored (S := S64x1024) hz _ _ _ _ _).trans (by simp only [View.readAt_eq_ld, hf8, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H15]
  · iexists _; isplitr; swap; · iexact H15
    ipureintro; exact hf15
  iexists _; isplitr; swap; · iexact H16
  ipureintro; sl_unfold_words
  exact (stored (S := S1024x2048) hz _ _ _ _ _).trans (by simp only [View.readAt_eq_ld, hf3, hf4, hf5, hf15, hf16, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz, mid])

set_option maxHeartbeats 4000000 in
/-- A step after the two further weights are cast: their buffers are left alone. -/
theorem run_C (hc0 : ¬cond0_0 i) (hc1 : ¬cond0_1 i) (hc2 : ¬cond0_2 i) (hc3 : ¬cond0_3 i)
    (xn : Vec F S1024x2048 .bf16) (acc x8 : Vec F S1024x2048 .f32) (x12 : Vec F S128x4096 .bf16) (x13 : Vec F S64x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x12 ∗ owns (c : Thread nD τ) arg14 fullShare x13 ∗ owns (c : Thread nD τ) arg15 fullShare xn ∗ owns (c : Thread nD τ) arg16 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay17 x2) ∗ owns (c : Thread nD τ) arg11 fullShare (k0_pay18 x3) ∗ owns (c : Thread nD τ) arg12 fullShare (k0_pay19 x4) ∗ owns (c : Thread nD τ) arg13 fullShare x12 ∗ owns (c : Thread nD τ) arg14 fullShare x13 ∗ owns (c : Thread nD τ) arg15 fullShare xn ∗ owns (c : Thread nD τ) arg16 fullShare (mid x2 x3 x4 xn acc)) -∗ K ⟨⟩))
      ⊢ wp frame (wpE (defs₀ (F := F)) Variants.none c none) E (cc0_ffn_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_first_eq_skeleton]; unfold cc0_ffn_first_skel
  simp only [k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16
  sl_exec (disch := first | sl_exact hc0 | sl_exact hc1 | sl_exact hc2 | sl_exact hc3)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact (stored (S := S2048x256) hz _ _ _ _ _).trans (by simp only [View.readAt_eq_ld, hf3, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H11]
  · iexists _; isplitr; swap; · iexact H11
    ipureintro; exact (stored (S := S2048x256) hz _ _ _ _ _).trans (by simp only [View.readAt_eq_ld, hf4, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H12]
  · iexists _; isplitr; swap; · iexact H12
    ipureintro; exact (stored (S := S256x2048) hz _ _ _ _ _).trans (by simp only [View.readAt_eq_ld, hf5, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H13]
  · iexists _; isplitr; swap; · iexact H13
    ipureintro; exact hf13
  isplitl [H14]
  · iexists _; isplitr; swap; · iexact H14
    ipureintro; exact hf14
  isplitl [H15]
  · iexists _; isplitr; swap; · iexact H15
    ipureintro; exact hf15
  iexists _; isplitr; swap; · iexact H16
  ipureintro; sl_unfold_words
  exact (stored (S := S1024x2048) hz _ _ _ _ _).trans (by simp only [View.readAt_eq_ld, hf3, hf4, hf5, hf15, hf16, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz, mid])

set_option maxHeartbeats 4000000 in
/-- The last step: the result's block is finished from the sums. -/
theorem run_D (hc0 : ¬cond0_0 i) (hc1 : ¬cond0_1 i) (hc2 : ¬cond0_2 i) (hc3 : cond0_3 i)
    (xn : Vec F S1024x2048 .bf16) (acc : Vec F S1024x2048 .f32) (x12 : Vec F S128x4096 .bf16) (x13 : Vec F S64x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x12 ∗ owns (c : Thread nD τ) arg14 fullShare x13 ∗ owns (c : Thread nD τ) arg15 fullShare xn ∗ owns (c : Thread nD τ) arg16 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (last (mid x2 x3 x4 xn acc) x0 x5) ∗ owns (c : Thread nD τ) arg10 fullShare (k0_pay17 x2) ∗ owns (c : Thread nD τ) arg11 fullShare (k0_pay18 x3) ∗ owns (c : Thread nD τ) arg12 fullShare (k0_pay19 x4) ∗ owns (c : Thread nD τ) arg13 fullShare x12 ∗ owns (c : Thread nD τ) arg14 fullShare x13 ∗ owns (c : Thread nD τ) arg15 fullShare xn ∗ owns (c : Thread nD τ) arg16 fullShare (mid x2 x3 x4 xn acc)) -∗ K ⟨⟩))
      ⊢ wp frame (wpE (defs₀ (F := F)) Variants.none c none) E (cc0_ffn_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_first_eq_skeleton]; unfold cc0_ffn_first_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14; obtain rfl := harg15.eq_unread hf15; obtain rfl := harg16.eq_unread hf16
  sl_exec (disch := first | sl_exact hc0 | sl_exact hc1 | sl_exact hc2 | sl_exact hc3)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; sl_unfold_words
    simp only [readCov_whole, readCov_rows, View.readAt_eq_ld, hf1, hf3, hf4, hf5, hf6, hf15, hf16, View.ld_unit_zero (S := S1024x2048) hz, View.ld_unit_zero (S := S1x2048) hz, View.ld_unit_zero (S := S2048x256) hz, View.ld_unit_zero (S := S256x2048) hz]
    exact View.read_writes_eq_canon _ _ (strips (mid x2 x3 x4 xn acc) x0 x5) (strips_cover _ _ _)
  isplitl [H10]
  · iexists _; isplitr; swap; · iexact H10
    ipureintro; exact (stored (S := S2048x256) hz _ _ _ _ _).trans (by simp only [View.readAt_eq_ld, hf3, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H11]
  · iexists _; isplitr; swap; · iexact H11
    ipureintro; exact (stored (S := S2048x256) hz _ _ _ _ _).trans (by simp only [View.readAt_eq_ld, hf4, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H12]
  · iexists _; isplitr; swap; · iexact H12
    ipureintro; exact (stored (S := S256x2048) hz _ _ _ _ _).trans (by simp only [View.readAt_eq_ld, hf5, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz])
  isplitl [H13]
  · iexists _; isplitr; swap; · iexact H13
    ipureintro; exact hf13
  isplitl [H14]
  · iexists _; isplitr; swap; · iexact H14
    ipureintro; exact hf14
  isplitl [H15]
  · iexists _; isplitr; swap; · iexact H15
    ipureintro; exact hf15
  iexists _; isplitr; swap; · iexact H16
  ipureintro; sl_unfold_words
  exact (stored (S := S1024x2048) hz _ _ _ _ _).trans (by simp only [View.readAt_eq_ld, hf3, hf4, hf5, hf15, hf16, View.ld_unit_zero (S := S1024x2048) hz, View.ld_unit_zero (S := S1x2048) hz, View.ld_unit_zero (S := S2048x256) hz, View.ld_unit_zero (S := S256x2048) hz, View.ld_unit_zero (S := S128x4096) hz, View.ld_unit_zero (S := S64x1024) hz, mid])

end Cert.Kernel3Ideal.Head

end
-- ==== Proof.HeadFrame.lean ====
/-
  The whole run of the first 1024 rows' feed-forward call, over any float values: what every array holds when it ends.
-/
module

public import proofs.«01_k».proof.Proof.HeadRun
public import Idealize.ShloMosaic.Lib.Pipeline.TableIdle

@[expose] public section

set_option maxRecDepth 16384

noncomputable section

namespace Cert.Kernel3Ideal.Head

open Cert Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a step is -/

/-- The first branch is taken at the first step only. -/
theorem first_iff : ∀ t : Fin cfg0.N, cond0_0 (grid0.coords t) ↔ t.val = 0 :=
  (by decide +kernel : ∀ t : Fin grid0.N, cond0_0 (grid0.coords t) ↔ t.val = 0)
/-- The second branch is taken at the first sixteen steps. -/
theorem castA_iff : ∀ t : Fin cfg0.N, cond0_1 (grid0.coords t) ↔ t.val < 16 :=
  (by decide +kernel : ∀ t : Fin grid0.N, cond0_1 (grid0.coords t) ↔ t.val < 16)
/-- The third branch is taken at the first sixteen steps. -/
theorem castB_iff : ∀ t : Fin cfg0.N, cond0_2 (grid0.coords t) ↔ t.val < 16 :=
  (by decide +kernel : ∀ t : Fin grid0.N, cond0_2 (grid0.coords t) ↔ t.val < 16)
/-- The last branch is taken at the last step only. -/
theorem last_iff : ∀ t : Fin cfg0.N, cond0_3 (grid0.coords t) ↔ t.val = 21 :=
  (by decide +kernel : ∀ t : Fin grid0.N, cond0_3 (grid0.coords t) ↔ t.val = 21)

/-- The result's block is stored at the last step only. -/
theorem idle8 : ∀ t : Fin cfg0.N, cfg0.idle 8 (grid0.coords t) = decide (t.val ≠ 21) := by decide +kernel
/-- The first further weight's strip is stored at the first sixteen steps. -/
theorem idle12 : ∀ t : Fin cfg0.N, cfg0.idle 12 (grid0.coords t) = decide (16 ≤ t.val) := by decide +kernel
/-- The second further weight's strip is stored at the first sixteen steps. -/
theorem idle13 : ∀ t : Fin cfg0.N, cfg0.idle 13 (grid0.coords t) = decide (16 ≤ t.val) := by decide +kernel
/-- The result's block is written back at the last step only. -/
theorem flush8 : ∀ t : Fin cfg0.N, (cfg0.win 8).flush t = decide (t.val = 21) := by decide +kernel
/-- Whether the first further weight's buffer holds nothing stored yet: up to the sixteenth step, and at the end. -/
theorem fresh12 (t : Fin cfg0.N) : cfg0.fresh 12 t.val = decide (t.val ≤ 15 ∨ t.val = 22) :=
  Cfg.fresh_tab cfg0 12 (fun n => decide (n ≤ 15 ∨ n = 22)) rfl (by decide +kernel) t.val (Nat.le_of_lt t.isLt)
/-- The same for the second further weight. -/
theorem fresh13 (t : Fin cfg0.N) : cfg0.fresh 13 t.val = decide (t.val ≤ 15 ∨ t.val = 22) :=
  Cfg.fresh_tab cfg0 13 (fun n => decide (n ≤ 15 ∨ n = 22)) rfl (by decide +kernel) t.val (Nat.le_of_lt t.isLt)

/-! ## What the buffers hold after each step -/

/-- The first step. -/
def t0 : Fin cfg0.N := ⟨0, by decide⟩

/-- The step that last stored a further weight's strip, at step `t` or before. -/
def cap (t : Fin cfg0.N) : Fin cfg0.N := ⟨min t.val 15, lt_of_le_of_lt (Nat.min_le_left _ _) t.isLt⟩

/-- Up to the sixteenth step that is the step itself. -/
theorem cap_of_lt (t : Fin cfg0.N) (h : t.val < 16) : cap t = t := Fin.ext (Nat.min_eq_left (by omega))

/-- After the sixteenth step it stays the same. -/
theorem cap_pred (t : Fin cfg0.N) (h : 16 ≤ t.val) : cap ⟨t.val - 1, by omega⟩ = cap t := Fin.ext (by show min (t.val - 1) 15 = min t.val 15; omega)

/-- The normalised rows in scratch. -/
def xn (c : Dev nD) : Vec F S1024x2048 .bf16 := k0_pay13 (iblk m c 0 t0) (iblk m c 1 t0)

/-- The sums in scratch after step `n`. -/
def sums (c : Dev nD) : (n : ℕ) → n < cfg0.N → Vec F S1024x2048 .f32
  | 0, h => mid (iblk m c 2 ⟨0, h⟩) (iblk m c 3 ⟨0, h⟩) (iblk m c 4 ⟨0, h⟩) (xn m c) k0_pay14
  | n + 1, h => mid (iblk m c 2 ⟨n + 1, h⟩) (iblk m c 3 ⟨n + 1, h⟩) (iblk m c 4 ⟨n + 1, h⟩) (xn m c) (sums c n (Nat.lt_of_succ_lt h))

/-- The sums after a step that is not the first. -/
theorem sums_pos (c : Dev nD) (t : Fin cfg0.N) (h : t.val ≠ 0) :
    sums m c t.val t.isLt = mid (iblk m c 2 t) (iblk m c 3 t) (iblk m c 4 t) (xn m c) (sums m c (t.val - 1) (by omega)) := by
  obtain ⟨n, hn⟩ := t
  cases n with
  | zero => exact absurd rfl h
  | succ n => rfl

/-- The scratch buffers. -/
abbrev sc0 : Memref sig .tc .vmem S1024x2048 .bf16 := Memref.whole cc0_scratch0
/-- The scratch buffer of the sums. -/
abbrev sc1 : Memref sig .tc .vmem S1024x2048 .f32 := Memref.whole cc0_scratch1

/-- What is held between steps: the scratch at anything before the first step, then at the normalised rows and the sums. -/
def Phi (c : Dev nD) : (n : ℕ) → n ≤ cfg0.N → sProp 𝕄
  | 0, _ => Pipeline.ΦA spec0 c
  | n + 1, h => iprop(iprop(owns (c : Thread nD τ) sc0 fullShare (xn m c) ∗ owns (c : Thread nD τ) sc1 fullShare (sums m c n h)) ∗ (∃ r, prngReg c r))

/-- Before a step that is not the first. -/
theorem Phi_pos (c : Dev nD) (n : ℕ) (h : n ≤ cfg0.N) (hn : n ≠ 0) :
    Phi m c n h = iprop(iprop(owns (c : Thread nD τ) sc0 fullShare (xn m c) ∗ owns (c : Thread nD τ) sc1 fullShare (sums m c (n - 1) (by omega))) ∗ (∃ r, prngReg c r)) := by
  cases n with
  | zero => exact absurd rfl hn
  | succ n => rfl

/-- What the launch hands over, the scratch as buffers owned at some contents. -/
theorem start_eq (c : Dev nD) : (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The data of the run: the arrays as the call finds them, what the body leaves in each window's buffer, and the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => last (sums m c t.val t.isLt) (iblk m c 0 t) (iblk m c 5 t)
    | ⟨9, _⟩ => k0_pay17 (iblk m c 2 t)
    | ⟨10, _⟩ => k0_pay18 (iblk m c 3 t)
    | ⟨11, _⟩ => k0_pay19 (iblk m c 4 t)
    | ⟨12, _⟩ => k0_pay15 (iblk m c 6 (cap t))
    | ⟨13, _⟩ => k0_pay16 (iblk m c 7 (cap t))
  Φ t := Phi m c t.val (Nat.le_of_lt_succ t.isLt)
  q _ := fullShare
  owed _ := 0

/-- The run's arrays are those the call finds. -/
theorem A_eq (c : Dev nD) (w : Fin cfg0.W) : (dats m 0 c).A w = V m c (Pipeline.arrRef spec0 w) := by
  dsimp only [dats]

/-- What input 0's buffer holds when the body runs: its block. -/
theorem before_0 (c : Dev nD) (t : Fin cfg0.N) (d) : (dats m 0 c).before 0 t d = iblk m c 0 t :=
  before0_0_of m (dats m 0 c) (A_eq m c 0) (fun _ => by dsimp only [dats]) t d
/-- What input 1's buffer holds when the body runs: its block. -/
theorem before_1 (c : Dev nD) (t : Fin cfg0.N) (d) : (dats m 0 c).before 1 t d = iblk m c 1 t :=
  before0_1_of m (dats m 0 c) (A_eq m c 1) (fun _ => by dsimp only [dats]) t d
/-- What input 2's buffer holds when the body runs: its block. -/
theorem before_2 (c : Dev nD) (t : Fin cfg0.N) (d) : (dats m 0 c).before 2 t d = iblk m c 2 t :=
  before0_2_of m (dats m 0 c) (A_eq m c 2) (fun _ => by dsimp only [dats]) t d
/-- What input 3's buffer holds when the body runs: its block. -/
theorem before_3 (c : Dev nD) (t : Fin cfg0.N) (d) : (dats m 0 c).before 3 t d = iblk m c 3 t :=
  before0_3_of m (dats m 0 c) (A_eq m c 3) (fun _ => by dsimp only [dats]) t d
/-- What input 4's buffer holds when the body runs: its block. -/
theorem before_4 (c : Dev nD) (t : Fin cfg0.N) (d) : (dats m 0 c).before 4 t d = iblk m c 4 t :=
  before0_4_of m (dats m 0 c) (A_eq m c 4) (fun _ => by dsimp only [dats]) t d
/-- What input 5's buffer holds when the body runs: its block. -/
theorem before_5 (c : Dev nD) (t : Fin cfg0.N) (d) : (dats m 0 c).before 5 t d = iblk m c 5 t :=
  before0_5_of m (dats m 0 c) (A_eq m c 5) (fun _ => by dsimp only [dats]) t d
/-- What input 6's buffer holds when the body runs: its block. -/
theorem before_6 (c : Dev nD) (t : Fin cfg0.N) (d) : (dats m 0 c).before 6 t d = iblk m c 6 t :=
  before0_6_of m (dats m 0 c) (A_eq m c 6) (fun _ => by dsimp only [dats]) t d
/-- What input 7's buffer holds when the body runs: its block. -/
theorem before_7 (c : Dev nD) (t : Fin cfg0.N) (d) : (dats m 0 c).before 7 t d = iblk m c 7 t :=
  before0_7_of m (dats m 0 c) (A_eq m c 7) (fun _ => by dsimp only [dats]) t d

/-- What the result's buffer is left at. -/
theorem after_8 (c : Dev nD) (t : Fin cfg0.N) : (dats m 0 c).after 8 t = last (sums m c t.val t.isLt) (iblk m c 0 t) (iblk m c 5 t) := by
  dsimp only [dats]

/-- After the sixteenth step the first further weight's buffer is found as it was left. -/
theorem before_12 (c : Dev nD) (t : Fin cfg0.N) (h : 16 ≤ t.val) (d) : (dats m 0 c).before 12 t d = k0_pay15 (iblk m c 6 (cap t)) := by
  rw [(dats m 0 c).before_out_traj 12 rfl (fun _ _ => rfl) (fun s _ hi _ => by
    have hs : 16 ≤ s.val := of_decide_eq_true ((idle12 s).symm.trans hi)
    dsimp only [dats]; rw [cap_pred s hs]) t.val t rfl d, if_neg (by rw [fresh12]; have := lt_of_lt_of_eq t.isLt (show cfg0.N = 22 from N_0); simp; omega)]
  dsimp only [dats]; rw [cap_pred t h]
/-- The same for the second further weight. -/
theorem before_13 (c : Dev nD) (t : Fin cfg0.N) (h : 16 ≤ t.val) (d) : (dats m 0 c).before 13 t d = k0_pay16 (iblk m c 7 (cap t)) := by
  rw [(dats m 0 c).before_out_traj 13 rfl (fun _ _ => rfl) (fun s _ hi _ => by
    have hs : 16 ≤ s.val := of_decide_eq_true ((idle13 s).symm.trans hi)
    dsimp only [dats]; rw [cap_pred s hs]) t.val t rfl d, if_neg (by rw [fresh13]; have := lt_of_lt_of_eq t.isLt (show cfg0.N = 22 from N_0); simp; omega)]
  dsimp only [dats]; rw [cap_pred t h]

/-- Window `w`'s buffer at step `t`. -/
abbrev st (w : Fin cfg0.W) (t : Fin cfg0.N) := (cfg0.win w).stage (cfg0.slots t w)

/-- A window stored at the step is left at what the data say. -/
theorem leaves_live (c : Dev nD) (w : Fin cfg0.W) (t : Fin cfg0.N) (h : cfg0.idle w (cfg0.grid.coords t) = false) :
    (dats m 0 c).leavesExact w t = owns (c : Thread nD τ) (st w t) fullShare ((dats m 0 c).after w t) := by
  unfold Dat.leavesExact; rw [h]

/-- A window whose buffer is found as the data say it is left may be left alone. -/
theorem leaves_of (c : Dev nD) (w : Fin cfg0.W) (t : Fin cfg0.N)
    (h : cfg0.idle w (cfg0.grid.coords t) = true → ∀ d, (dats m 0 c).before w t d = (dats m 0 c).after w t) :
    owns (c : Thread nD τ) (st w t) fullShare ((dats m 0 c).after w t) ⊢ (dats m 0 c).leavesExact w t := by
  cases hi : cfg0.idle w (cfg0.grid.coords t) with
  | false => rw [leaves_live m c w t hi]
  | true =>
    cases hf : (cfg0.win w).flush t with
    | false =>
      rw [Dat.leavesExact_idle (dats m 0 c) w t hi hf]
      iintro H
      iexists (dats m 0 c).after w t
      rw [h hi]
      iexact H
    | true => unfold Dat.leavesExact; rw [hi, hf]

/-- The first further weight's buffer, left at what the data say. -/
theorem leaves_12 (c : Dev nD) (t : Fin cfg0.N) :
    owns (c : Thread nD τ) (st 12 t) fullShare (k0_pay15 (iblk m c 6 (cap t))) ⊢ (dats m 0 c).leavesExact 12 t :=
  leaves_of m c 12 t fun hi d => before_12 m c t (of_decide_eq_true ((idle12 t).symm.trans hi)) d
/-- The second further weight's buffer, left at what the data say. -/
theorem leaves_13 (c : Dev nD) (t : Fin cfg0.N) :
    owns (c : Thread nD τ) (st 13 t) fullShare (k0_pay16 (iblk m c 7 (cap t))) ⊢ (dats m 0 c).leavesExact 13 t :=
  leaves_of m c 13 t fun hi d => before_13 m c t (of_decide_eq_true ((idle13 t).symm.trans hi)) d

/-! ## The body at any step -/

/-- What the body is called with at step `t`. -/
def bodyPre (c : Dev nD) (t : Fin cfg0.N) : sProp 𝕄 :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d))
    ∗ (∃ d, owns (c : Thread nD τ) (st 6 t) fullShare ((dats m 0 c).before 6 t d))
    ∗ (∃ d, owns (c : Thread nD τ) (st 7 t) fullShare ((dats m 0 c).before 7 t d))
    ∗ (∃ d, owns (c : Thread nD τ) (st 8 t) fullShare ((dats m 0 c).before 8 t d))
    ∗ (∃ d, owns (c : Thread nD τ) (st 9 t) fullShare ((dats m 0 c).before 9 t d))
    ∗ (∃ d, owns (c : Thread nD τ) (st 10 t) fullShare ((dats m 0 c).before 10 t d))
    ∗ (∃ d, owns (c : Thread nD τ) (st 11 t) fullShare ((dats m 0 c).before 11 t d))
    ∗ (∃ d, owns (c : Thread nD τ) (st 12 t) fullShare ((dats m 0 c).before 12 t d))
    ∗ (∃ d, owns (c : Thread nD τ) (st 13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 14400000 in
/-- The body at any step takes what the data say it is handed to what they say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop(iprop(owns (c : Thread nD τ) sc0 fullShare (xn m c) ∗ owns (c : Thread nD τ) sc1 fullShare (sums m c t.val t.isLt)) ∗ (∃ r, prngReg c r)) from rfl]
  rw [show (dats m 0 c).Φ t.castSucc = Phi m c t.val (Nat.le_of_lt t.isLt) from rfl]
  have hN : t.val < 22 := lt_of_lt_of_eq t.isLt (show cfg0.N = 22 from N_0)
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 9 t rfl, leaves_live m c 10 t rfl, leaves_live m c 11 t rfl]
  by_cases h0 : t.val = 0
  · obtain rfl : t = t0 := Fin.ext h0
    have hc : cap t0 = t0 := rfl
    rw [Dat.leavesExact_idle (dats m 0 c) 8 t0 (idle8 t0) (flush8 t0)]
    rw [show Phi m c t0.val _ = _ from start_eq c]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_A c (grid0.coords t0) _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) ((first_iff t0).mpr h0) ((castA_iff t0).mpr (by omega)) ((castB_iff t0).mpr (by omega)) (fun h => absurd ((last_iff t0).mp h) (by omega)) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iapply (leaves_12 m c t0); rw [hc]; iexact H12
    iapply (leaves_13 m c t0); rw [hc]; iexact H13
  have hs := sums_pos m c t h0
  rw [Phi_pos m c t.val _ h0, hs]
  by_cases h1 : t.val < 16
  · rw [Dat.leavesExact_idle (dats m 0 c) 8 t ((idle8 t).trans (decide_eq_true (by omega))) ((flush8 t).trans (decide_eq_false (by omega)))]
    have hc := cap_of_lt t h1
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_B c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) ((castA_iff t).mpr h1) ((castB_iff t).mpr h1) (fun h => absurd ((last_iff t).mp h) (by omega)) (xn m c) (sums m c (t.val - 1) (by omega)) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iapply (leaves_12 m c t); rw [hc]; iexact H12
    iapply (leaves_13 m c t); rw [hc]; iexact H13
  by_cases h2 : t.val = 21
  · rw [leaves_live m c 8 t ((idle8 t).trans (decide_eq_false (by omega))), after_8 m c t, hs]
    simp only [before_12 m c t (by omega), before_13 m c t (by omega)]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_D c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (fun h => h1 ((castA_iff t).mp h)) (fun h => h1 ((castB_iff t).mp h)) ((last_iff t).mpr h2) (xn m c) (sums m c (t.val - 1) (by omega)) (k0_pay15 (iblk m c 6 (cap t))) (k0_pay16 (iblk m c 7 (cap t))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [H13]; · iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iapply (leaves_12 m c t) $$ H12
    iapply (leaves_13 m c t) $$ H13
  · rw [Dat.leavesExact_idle (dats m 0 c) 8 t ((idle8 t).trans (decide_eq_true (by omega))) ((flush8 t).trans (decide_eq_false (by omega)))]
    simp only [before_12 m c t (by omega), before_13 m c t (by omega)]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_C c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (fun h => h1 ((castA_iff t).mp h)) (fun h => h1 ((castB_iff t).mp h)) (fun h => h2 ((last_iff t).mp h)) (xn m c) (sums m c (t.val - 1) (by omega)) _ (k0_pay15 (iblk m c 6 (cap t))) (k0_pay16 (iblk m c 7 (cap t))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iapply (leaves_12 m c t) $$ H12
    iapply (leaves_13 m c t) $$ H13

/-- The body the pipeline calls at step `t`. -/
theorem body_row (t : Fin cfg0.N) : defs₀ (F := F) .tc cfg0.body (cfg0.bodyArgs t (cfg0.slots t)) = bodyAt0 t := by
  unfold defs₀; rw [Defs.onTc_tc]

/-- The body at every step, as the pipeline asks for it. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands over is what is held before the first step. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- What is held after the last step gives back what the launch handed over. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 22 := N_0; omega), start_eq]
  iintro ⟨⟨HS0, HS1⟩, Hg⟩
  isplitl [HS0 HS1]
  · isplitl [HS0]
    · iexists _; iexact HS0
    iexists _; iexact HS1
  iexact Hg

set_option backward.isDefEq.respectTransparency.types false in
/-- The whole run: every array ends at what the data say, and every semaphore's count at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every array ends at what the data say. -/
theorem run_main : θ_run defs (onTc (τ := τ) (main (F := F))) (s₀ m ρ) (Pipeline.FramePost cfgs (dats m) 0 (V m)) :=
  (θ_run defs _ _).mono (fun _ h => h.1) (run_main_quiescent m ρ)

/-- The run ends, with the arguments as they were and every semaphore's count at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel3Ideal.Head

end
-- ==== Proof.HeadBlocks.lean ====
/-
  What the windows of the first 1024 rows' feed-forward call hold at a grid point, entry by entry, as entries of the
  arrays the call is given.
-/
module

public import proofs.«01_k».proof.Proof.HeadFrame
public import Idealize.ShloMosaic.Lib.Pipeline.Value
public import Idealize.ShloMosaic.Lib.Tactic
public import Idealize.ShloMosaic.Lib.Pointwise

@[expose] public section

set_option maxRecDepth 16384

noncomputable section

namespace Cert.Kernel3Ideal.Head

open Cert Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The rows the call is given. -/
def X : Vec Ideal S8192x2048 .f32 := shapeCast S8192x2048 (m ((c : Thread nD τ).loc main_arg0)) shapeCasts_S4x2048x2048_S8192x2048
/-- The gate's weights. -/
def G : Vec Ideal S2048x5632 .f32 := shapeCast S2048x5632 (m ((c : Thread nD τ).loc main_arg2)) shapeCasts_S1x2048x5632_S2048x5632
/-- The other factor's weights. -/
def U : Vec Ideal S2048x5632 .f32 := shapeCast S2048x5632 (m ((c : Thread nD τ).loc main_arg3)) shapeCasts_S1x2048x5632_S2048x5632
/-- The weights back to the model's width. -/
def D : Vec Ideal S5632x2048 .f32 := shapeCast S5632x2048 (m ((c : Thread nD τ).loc main_arg4)) shapeCasts_S1x5632x2048_S5632x2048
/-- The mixer's input weights, cast beside. -/
def I : Vec Ideal S2048x4096 .f32 := shapeCast S2048x4096 (m ((c : Thread nD τ).loc main_arg6)) shapeCasts_S1x2048x4096_S2048x4096
/-- The state space's gate weights, cast beside. -/
def S : Vec Ideal S1024x1024 .f32 := shapeCast S1024x1024 (m ((c : Thread nD τ).loc main_arg7)) shapeCasts_S1x1024x1024_S1024x1024

/-- The gain before the block. -/
def pre (k : Fin 2048) : EReal := (shapeCast S2048 (m ((c : Thread nD τ).loc main_arg1)) shapeCasts_S1x2048_S2048 : Vec Ideal S2048 .f32) (ix1 k)
/-- The gain after the block. -/
def post (k : Fin 2048) : EReal := (shapeCast S2048 (m ((c : Thread nD τ).loc main_arg5)) shapeCasts_S1x2048_S2048 : Vec Ideal S2048 .f32) (ix1 k)

/-- The region reads the rows as they are given. -/
theorem V_v0 : V m c main_v0 = X m c := rfl
/-- The region reads the gate's weights as they are given. -/
theorem V_v3 : V m c main_v3 = G m c := rfl
/-- The region reads the other factor's weights as they are given. -/
theorem V_v4 : V m c main_v4 = U m c := rfl
/-- The region reads the weights back as they are given. -/
theorem V_v5 : V m c main_v5 = D m c := rfl
/-- The region reads the mixer's input weights as they are given. -/
theorem V_v8 : V m c main_v8 = I m c := rfl
/-- The region reads the state space's gate weights as they are given. -/
theorem V_v9 : V m c main_v9 = S m c := rfl
/-- The gain before the block, laid out as a row. -/
theorem V_v2 (k : Fin 2048) : (V m c main_v2 : Vec Ideal S1x2048 .f32) (ix2 0 k) = pre m c k := by
  show (shapeCast S1x2048 (shapeCast S2048 (m ((c : Thread nD τ).loc main_arg1)) shapeCasts_S1x2048_S2048 : Vec Ideal S2048 .f32) shapeCasts_S2048_S1x2048 : Vec Ideal S1x2048 .f32) (ix2 0 k) = pre m c k
  unfold pre
  pointwise
/-- The gain after the block, laid out as a row. -/
theorem V_v7 (k : Fin 2048) : (V m c main_v7 : Vec Ideal S1x2048 .f32) (ix2 0 k) = post m c k := by
  show (shapeCast S1x2048 (shapeCast S2048 (m ((c : Thread nD τ).loc main_arg5)) shapeCasts_S1x2048_S2048 : Vec Ideal S2048 .f32) shapeCasts_S2048_S1x2048 : Vec Ideal S1x2048 .f32) (ix2 0 k) = post m c k
  unfold post
  pointwise

/-- Window 0 stays. -/
theorem index_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- Window 1 stays. -/
theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Window 2 moves along the hidden columns. -/
theorem index_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
/-- Window 3 moves along the hidden columns. -/
theorem index_3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
/-- Window 4 moves along the hidden rows. -/
theorem index_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
/-- Window 5 stays. -/
theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6 moves down the first further weight and stops at its last strip. -/
theorem index_6 : ∀ t : Fin cfg0.N, win0_6.index t (0 : Fin 2) = min t.val 15 ∧ win0_6.index t (1 : Fin 2) = 0 :=
  (by decide +kernel : ∀ t : Fin grid0.N, win0_6.index t (0 : Fin 2) = min t.val 15 ∧ win0_6.index t (1 : Fin 2) = 0)
/-- Window 7 moves down the second further weight and stops at its last strip. -/
theorem index_7 : ∀ t : Fin cfg0.N, win0_7.index t (0 : Fin 2) = min t.val 15 ∧ win0_7.index t (1 : Fin 2) = 0 :=
  (by decide +kernel : ∀ t : Fin grid0.N, win0_7.index t (0 : Fin 2) = min t.val 15 ∧ win0_7.index t (1 : Fin 2) = 0)
/-- Window 8 stays. -/
theorem index_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9 moves along the hidden columns. -/
theorem index_9 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)
/-- Window 10 moves along the hidden columns. -/
theorem index_10 : ∀ t : Fin cfg0.N, win0_10.index t (0 : Fin 2) = 0 ∧ win0_10.index t (1 : Fin 2) = t.val :=
  (by decide +kernel : ∀ t : Fin grid0.N, win0_10.index t (0 : Fin 2) = 0 ∧ win0_10.index t (1 : Fin 2) = t.val)
/-- Window 11 moves along the hidden rows. -/
theorem index_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
/-- Window 12 moves down the first further weight and stops at its last strip. -/
theorem index_12 : ∀ t : Fin cfg0.N, win0_12.index t (0 : Fin 2) = min t.val 15 ∧ win0_12.index t (1 : Fin 2) = 0 :=
  (by decide +kernel : ∀ t : Fin grid0.N, win0_12.index t (0 : Fin 2) = min t.val 15 ∧ win0_12.index t (1 : Fin 2) = 0)
/-- Window 13 moves down the second further weight and stops at its last strip. -/
theorem index_13 : ∀ t : Fin cfg0.N, win0_13.index t (0 : Fin 2) = min t.val 15 ∧ win0_13.index t (1 : Fin 2) = 0 :=
  (by decide +kernel : ∀ t : Fin grid0.N, win0_13.index t (0 : Fin 2) = min t.val 15 ∧ win0_13.index t (1 : Fin 2) = 0)

/-- Window 0 holds the first 1024 rows. -/
theorem blk_0 (t : Fin cfg0.N) (p : Fin 1024) (k : Fin 2048) (r : Fin 8192) (hr : r.val = p.val) :
    iblk m c 0 t (ix2 p k) = X m c (ix2 r k) := by
  rw [← V_v0]
  unfold iblk
  rw [View.read_apply]
  show V m c main_v0 _ = V m c main_v0 _
  congr 1
  funext a
  apply Fin.ext
  match a with
  | ⟨0, _⟩ => show win0_0.index t 0 * 1024 + 1 * p.val = r.val; rw [(index_0 t).1]; omega
  | ⟨1, _⟩ => show win0_0.index t 1 * 2048 + 1 * k.val = k.val; rw [(index_0 t).2]; omega

/-- Window 1 holds the gain before the block. -/
theorem blk_1 (t : Fin cfg0.N) (k : Fin 2048) :
    iblk m c 1 t (ix2 0 k) = pre m c k := by
  rw [← V_v2]
  unfold iblk
  rw [View.read_apply]
  show V m c main_v2 _ = V m c main_v2 _
  congr 1
  funext a
  apply Fin.ext
  match a with
  | ⟨0, _⟩ => show win0_1.index t 0 * 1 + 1 * 0 = 0; rw [(index_1 t).1]
  | ⟨1, _⟩ => show win0_1.index t 1 * 2048 + 1 * k.val = k.val; rw [(index_1 t).2]; omega

/-- Window 2 holds 256 of the gate's columns. -/
theorem blk_2 (t : Fin cfg0.N) (k : Fin 2048) (j : Fin 256) (q : Fin 5632) (hq : q.val = t.val * 256 + j.val) :
    iblk m c 2 t (ix2 k j) = G m c (ix2 k q) := by
  rw [← V_v3]
  unfold iblk
  rw [View.read_apply]
  show V m c main_v3 _ = V m c main_v3 _
  congr 1
  funext a
  apply Fin.ext
  match a with
  | ⟨0, _⟩ => show win0_2.index t 0 * 2048 + 1 * k.val = k.val; rw [(index_2 t).1]; omega
  | ⟨1, _⟩ => show win0_2.index t 1 * 256 + 1 * j.val = q.val; rw [(index_2 t).2]; omega

/-- Window 3 holds 256 of the other factor's columns. -/
theorem blk_3 (t : Fin cfg0.N) (k : Fin 2048) (j : Fin 256) (q : Fin 5632) (hq : q.val = t.val * 256 + j.val) :
    iblk m c 3 t (ix2 k j) = U m c (ix2 k q) := by
  rw [← V_v4]
  unfold iblk
  rw [View.read_apply]
  show V m c main_v4 _ = V m c main_v4 _
  congr 1
  funext a
  apply Fin.ext
  match a with
  | ⟨0, _⟩ => show win0_3.index t 0 * 2048 + 1 * k.val = k.val; rw [(index_3 t).1]; omega
  | ⟨1, _⟩ => show win0_3.index t 1 * 256 + 1 * j.val = q.val; rw [(index_3 t).2]; omega

/-- Window 4 holds 256 rows of the weights back. -/
theorem blk_4 (t : Fin cfg0.N) (j : Fin 256) (k : Fin 2048) (q : Fin 5632) (hq : q.val = t.val * 256 + j.val) :
    iblk m c 4 t (ix2 j k) = D m c (ix2 q k) := by
  rw [← V_v5]
  unfold iblk
  rw [View.read_apply]
  show V m c main_v5 _ = V m c main_v5 _
  congr 1
  funext a
  apply Fin.ext
  match a with
  | ⟨0, _⟩ => show win0_4.index t 0 * 256 + 1 * j.val = q.val; rw [(index_4 t).1]; omega
  | ⟨1, _⟩ => show win0_4.index t 1 * 2048 + 1 * k.val = k.val; rw [(index_4 t).2]; omega

/-- Window 5 holds the gain after the block. -/
theorem blk_5 (t : Fin cfg0.N) (k : Fin 2048) :
    iblk m c 5 t (ix2 0 k) = post m c k := by
  rw [← V_v7]
  unfold iblk
  rw [View.read_apply]
  show V m c main_v7 _ = V m c main_v7 _
  congr 1
  funext a
  apply Fin.ext
  match a with
  | ⟨0, _⟩ => show win0_5.index t 0 * 1 + 1 * 0 = 0; rw [(index_5 t).1]
  | ⟨1, _⟩ => show win0_5.index t 1 * 2048 + 1 * k.val = k.val; rw [(index_5 t).2]; omega

/-- Window 6 holds 128 rows of the first further weight. -/
theorem blk_6 (t : Fin cfg0.N) (p : Fin 128) (k : Fin 4096) (r : Fin 2048) (hr : r.val = min t.val 15 * 128 + p.val) :
    iblk m c 6 t (ix2 p k) = I m c (ix2 r k) := by
  rw [← V_v8]
  unfold iblk
  rw [View.read_apply]
  show V m c main_v8 _ = V m c main_v8 _
  congr 1
  funext a
  apply Fin.ext
  match a with
  | ⟨0, _⟩ => show win0_6.index t 0 * 128 + 1 * p.val = r.val; rw [(index_6 t).1]; omega
  | ⟨1, _⟩ => show win0_6.index t 1 * 4096 + 1 * k.val = k.val; rw [(index_6 t).2]; omega

/-- Window 7 holds 64 rows of the second further weight. -/
theorem blk_7 (t : Fin cfg0.N) (p : Fin 64) (k : Fin 1024) (r : Fin 1024) (hr : r.val = min t.val 15 * 64 + p.val) :
    iblk m c 7 t (ix2 p k) = S m c (ix2 r k) := by
  rw [← V_v9]
  unfold iblk
  rw [View.read_apply]
  show V m c main_v9 _ = V m c main_v9 _
  congr 1
  funext a
  apply Fin.ext
  match a with
  | ⟨0, _⟩ => show win0_7.index t 0 * 64 + 1 * p.val = r.val; rw [(index_7 t).1]; omega
  | ⟨1, _⟩ => show win0_7.index t 1 * 1024 + 1 * k.val = k.val; rw [(index_7 t).2]; omega

end Cert.Kernel3Ideal.Head

end
-- ==== Proof.HeadCases.lean ====
/-
  What a step of the first 1024 rows' feed-forward call computes at the ideal instance, read at an index.
-/
module

public import proofs.«01_k».proof.Proof.Swiglu
public import proofs.«01_k».proof.Proof.HeadRun
public import Idealize.ShloMosaic.Lib.Pointwise

@[expose] public section

set_option maxRecDepth 16384

noncomputable section

namespace Cert.Kernel3Ideal.Head

open scoped BigOperators
open Cert Cert.Kernel3Ideal Cert.Kernel3Ideal.Gen Idealize.ShloMosaic Idealize.ShloMosaic.TcCoe Idealize.SL.Sem

/-- The sums start at nothing. -/
theorem pay14_apply (y : S1024x2048.Idx) : k0_pay14 (F := Ideal) y = 0 := by
  obtain ⟨p, q, rfl⟩ : ∃ (p : Fin 1024) (q : Fin 2048), y = ix2 p q := ⟨y 0, y 1, (ix2_eta y).symm⟩
  unfold_payloads
  pointwise

/-- The normalised rows, as the first step stores them. -/
theorem pay13_apply (x0 : Vec Ideal S1024x2048 .f32) (x1 : Vec Ideal S1x2048 .f32) (p : Fin 1024) (k : Fin 2048) :
    k0_pay13 (F := Ideal) x0 x1 (ix2 p k) = Swiglu.norm (fun k => x0 (ix2 p k)) (fun k => x1 (ix2 0 k)) k := by
  unfold_payloads
  pointwise
  rfl

/-- A cast of 256 of the gate's columns changes nothing. -/
theorem pay17_eq (x : Vec Ideal S2048x256 .f32) : k0_pay17 (F := Ideal) x = x := by
  funext y
  obtain ⟨p, q, rfl⟩ : ∃ (p : Fin 2048) (q : Fin 256), y = ix2 p q := ⟨y 0, y 1, (ix2_eta y).symm⟩
  unfold_payloads
  pointwise

/-- A cast of 256 of the other factor's columns changes nothing. -/
theorem pay18_eq (x : Vec Ideal S2048x256 .f32) : k0_pay18 (F := Ideal) x = x := by
  funext y
  obtain ⟨p, q, rfl⟩ : ∃ (p : Fin 2048) (q : Fin 256), y = ix2 p q := ⟨y 0, y 1, (ix2_eta y).symm⟩
  unfold_payloads
  pointwise

/-- A cast of 256 rows of the weights back changes nothing. -/
theorem pay19_eq (x : Vec Ideal S256x2048 .f32) : k0_pay19 (F := Ideal) x = x := by
  funext y
  obtain ⟨p, q, rfl⟩ : ∃ (p : Fin 256) (q : Fin 2048), y = ix2 p q := ⟨y 0, y 1, (ix2_eta y).symm⟩
  unfold_payloads
  pointwise

/-- A cast of a strip of the first further weight changes nothing. -/
theorem pay15_eq (x : Vec Ideal S128x4096 .f32) : k0_pay15 (F := Ideal) x = x := by
  funext y
  obtain ⟨p, q, rfl⟩ : ∃ (p : Fin 128) (q : Fin 4096), y = ix2 p q := ⟨y 0, y 1, (ix2_eta y).symm⟩
  unfold_payloads
  pointwise

/-- A cast of a strip of the second further weight changes nothing. -/
theorem pay16_eq (x : Vec Ideal S64x1024 .f32) : k0_pay16 (F := Ideal) x = x := by
  funext y
  obtain ⟨p, q, rfl⟩ : ∃ (p : Fin 64) (q : Fin 1024), y = ix2 p q := ⟨y 0, y 1, (ix2_eta y).symm⟩
  unfold_payloads
  pointwise

/-- A step adds its strip of 256 hidden columns to the sums. -/
theorem mid_apply (x2 x3 : Vec Ideal S2048x256 .f32) (x4 : Vec Ideal S256x2048 .f32) (xn : Vec Ideal S1024x2048 .bf16)
    (acc : Vec Ideal S1024x2048 .f32) (p : Fin 1024) (q : Fin 2048) :
    mid (F := Ideal) x2 x3 x4 xn acc (ix2 p q)
      = acc (ix2 p q) + ∑ j : Fin 256, Swiglu.unit (fun k => xn (ix2 p k)) (fun k => x2 (ix2 k j)) (fun k => x3 (ix2 k j)) * x4 (ix2 j q) := by
  unfold mid Swiglu.unit
  unfold_payloads
  pointwise

/-- What the last step makes of a block whose accumulated sums are `A`: each row normalised, half of it added to the row of `x0`. -/
def epi (A x0 : Vec Ideal S1024x2048 .f32) (x5 : Vec Ideal S1x2048 .f32) : Vec Ideal S1024x2048 .f32 := fun y =>
  x0 y + A y * Swiglu.scale (fun k => A (ix2 (y 0) k)) * (Ideal.ofBits .f32 0x3F000000#32 * x5 (ix2 0 (y 1)))

/-- A strip of 128 rows, placed in its block. -/
theorem emb_strip (o : ℕ) (inb : ∀ a, ![o, 0] a + ![128, 2048] a ≤ S1024x2048.size a) (r : Fin 128) (q : Fin 2048) (h : o + r.val < 1024) :
    (Rect.unit (s := S1024x2048) ![o, 0] ![128, 2048] inb).emb (ix2 r q) = ix2 ⟨o + r.val, h⟩ q := by
  funext a
  refine Fin.ext ((Rect.emb_apply _ _ _).trans ?_)
  fin_cases a
  · show o + 1 * r.val = o + r.val
    omega
  · show 0 + 1 * q.val = q.val
    omega

/-- The last step finishes the block strip by strip of 128 rows. -/
theorem last_eq (A x0 : Vec Ideal S1024x2048 .f32) (x5 : Vec Ideal S1x2048 .f32) : last (F := Ideal) A x0 x5 = epi A x0 x5 := by
  funext y
  refine View.canon_append_of_piecesOf (epi A x0 x5) [] (strips A x0 x5) ⟨?_, ?_, ?_, ?_, ?_, ?_, ?_, ?_, trivial⟩ y (strips_cover A x0 x5 y)
  · intro x
    obtain ⟨r, q, rfl⟩ : ∃ (r : Fin 128) (q : Fin 2048), x = ix2 r q := ⟨x 0, x 1, (ix2_eta x).symm⟩
    refine Eq.trans ?_ (congrArg (epi A x0 x5) (emb_strip 896 inb_S1024x2048_S128x2048_896_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x5) (emb_strip 768 inb_S1024x2048_S128x2048_768_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x5) (emb_strip 640 inb_S1024x2048_S128x2048_640_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x5) (emb_strip 512 inb_S1024x2048_S128x2048_512_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x5) (emb_strip 384 inb_S1024x2048_S128x2048_384_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x5) (emb_strip 256 inb_S1024x2048_S128x2048_256_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x5) (emb_strip 128 inb_S1024x2048_S128x2048_128_0 r q (by omega))).symm
    unfold_payloads
    pointwise
    rfl
  · intro x
    obtain ⟨r, q, rfl⟩ : ∃ (r : Fin 128) (q : Fin 2048), x = ix2 r q := ⟨x 0, x 1, (ix2_eta x).symm⟩
    refine Eq.trans ?_ (congrArg (epi A x0 x5) (emb_strip 0 inb_S1024x2048_S128x2048_0_0 r q (by omega))).symm
    unfold_payloads
    pointwise
    rfl

end Cert.Kernel3Ideal.Head

end
-- ==== Proof.HeadValue.lean ====
/-
  The arrays the first 1024 rows' feed-forward call returns: the rows' branch, from sums that after each step are the
  terms of the strips so far, and the five cast weights, which are the weights.
-/
module

public import proofs.«01_k».proof.Proof.HeadBlocks
public import proofs.«01_k».proof.Proof.HeadCases

@[expose] public section

set_option maxRecDepth 16384

noncomputable section

namespace Cert.Kernel3Ideal.Head

open Cert Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The gate's weights, a hidden column at a time. -/
abbrev gate (j : Fin 5632) (k : Fin 2048) : EReal := G m c (ix2 k j)
/-- The other factor's weights, a hidden column at a time. -/
abbrev up (j : Fin 5632) (k : Fin 2048) : EReal := U m c (ix2 k j)
/-- The weights back, a hidden column at a time. -/
abbrev down (j : Fin 5632) (q : Fin 2048) : EReal := D m c (ix2 j q)
/-- Row `p`, one of the first 1024. -/
abbrev xrow (p : Fin 1024) (k : Fin 2048) : EReal := X m c (ix2 ⟨p.val, by omega⟩ k)
/-- Row `p`, normalised. -/
abbrev nrow (p : Fin 1024) : Fin 2048 → EReal := Swiglu.norm (xrow m c p) (pre m c)
/-- The terms of row `p` for output column `q`. -/
abbrev terms (p : Fin 1024) (q : Fin 2048) : ℕ → EReal := Swiglu.termN (nrow m c p) (gate m c) (up m c) (down m c) q

/-- The normalised rows in scratch. -/
theorem xn_apply (p : Fin 1024) (k : Fin 2048) : xn m c (ix2 p k) = nrow m c p k := by
  unfold xn
  rw [pay13_apply]
  simp only [blk_0 m c t0 p _ ⟨p.val, by omega⟩ rfl, blk_1 m c t0]

/-- A step's strip is a strip of terms. -/
theorem step_apply (t : Fin cfg0.N) (acc : Vec Ideal S1024x2048 .f32) (p : Fin 1024) (q : Fin 2048) :
    mid (F := Ideal) (iblk m c 2 t) (iblk m c 3 t) (iblk m c 4 t) (xn m c) acc (ix2 p q)
      = acc (ix2 p q) + Swiglu.strip (terms m c p q) (t.val * 256) := by
  have hN : t.val < 22 := lt_of_lt_of_eq t.isLt (show cfg0.N = 22 from N_0)
  rw [mid_apply, show (fun k => xn m c (ix2 p k)) = nrow m c p from funext (xn_apply m c p)]
  exact congrArg _ (Swiglu.strip_congr _ _ _ _ q (t.val * 256) (by omega) _ _ _
    (fun j k => blk_2 m c t k j _ rfl) (fun j k => blk_3 m c t k j _ rfl) (fun j => blk_4 m c t j q _ rfl))

/-- The sums after step `n`: the terms of the strips so far. -/
theorem sums_apply (p : Fin 1024) (q : Fin 2048) (n : ℕ) (h : n < cfg0.N) :
    sums m c n h (ix2 p q) = ∑ j ∈ Finset.range (n * 256 + 256), terms m c p q j := by
  induction n with
  | zero =>
    refine (step_apply m c ⟨0, h⟩ (k0_pay14 (F := Ideal)) p q).trans ?_
    rw [pay14_apply, Swiglu.range_add_256]
    simp only [Nat.zero_mul, Finset.range_zero, Finset.sum_empty]
  | succ n ih =>
    refine (step_apply m c ⟨n + 1, h⟩ _ p q).trans ?_
    rw [ih, Swiglu.range_add_256 _ ((n + 1) * 256), Nat.succ_mul]

/-- The last step. -/
def tl : Fin cfg0.N := ⟨21, by decide⟩

/-- The rows' branch, as one array. -/
def out : Vec Ideal S1024x2048 .f32 := fun y =>
  Swiglu.branch (xrow m c (y 0)) (pre m c) (post m c) (gate m c) (up m c) (down m c) (y 1)

/-- The last step leaves the rows' branch. -/
theorem last_apply (t : Fin cfg0.N) (h : t.val = 21) (p : Fin 1024) (q : Fin 2048) :
    last (F := Ideal) (sums m c t.val t.isLt) (iblk m c 0 t) (iblk m c 5 t) (ix2 p q) = out m c (ix2 p q) := by
  have hA : ∀ k : Fin 2048, sums m c t.val t.isLt (ix2 p k) = Swiglu.hidden (nrow m c p) (gate m c) (up m c) (down m c) k := by
    intro k
    rw [sums_apply, Swiglu.hidden_eq, h]
  rw [last_eq]
  unfold epi
  show (_ : EReal) + sums m c t.val t.isLt (ix2 p q) * Swiglu.scale (fun k => sums m c t.val t.isLt (ix2 p k)) * (_ * iblk m c 5 t (ix2 0 q)) = _
  rw [hA q, funext hA, blk_0 m c t p q ⟨p.val, by omega⟩ rfl, blk_5 m c t q]
  rfl

/-- The result's array at the end. -/
theorem array8 : (dats m 0 c).arrAt 8 cfg0.N = out m c := by
  have he : ∀ (t : Fin cfg0.N) (p : Fin 1024) (q : Fin 2048), ((cfg0.win 8).blk t).view.emb (ix2 p q) = ix2 p q := by
    intro t p q
    funext a
    apply Fin.ext
    match a with
    | ⟨0, _⟩ => show win0_8.index t 0 * 1024 + 1 * p.val = p.val; rw [(index_8 t).1]; omega
    | ⟨1, _⟩ => show win0_8.index t 1 * 2048 + 1 * q.val = q.val; rw [(index_8 t).2]; omega
  refine (dats m 0 c).arrAt_eq_of_cover 8 (out m c) ?_ ?_
  · intro t hf
    rw [flush8] at hf
    funext y
    obtain ⟨p, q, rfl⟩ : ∃ (p : Fin 1024) (q : Fin 2048), y = ix2 p q := ⟨y 0, y 1, (ix2_eta y).symm⟩
    rw [View.read_apply, he t p q]
    show (dats m 0 c).after 8 t (ix2 p q) = _
    rw [after_8]
    exact last_apply m c t (of_decide_eq_true hf) p q
  · intro i
    obtain ⟨p, q, rfl⟩ : ∃ (p : Fin 1024) (q : Fin 2048), i = ix2 p q := ⟨i 0, i 1, (ix2_eta i).symm⟩
    refine ⟨tl, flush8 _, ?_⟩
    rw [← he tl p q]
    exact View.emb_mem_set _ _

/-- Window 9 is written back at every step. -/
theorem flush9 : ∀ t : Fin cfg0.N, (cfg0.win 9).flush t = true := by decide +kernel

/-- The array of the gate's weights at the end. -/
theorem array9 : (dats m 0 c).arrAt 9 cfg0.N = (G m c : S2048x5632.Idx → EReal) := by
  have he : ∀ (t : Fin cfg0.N) (p : Fin 2048) (q : Fin 256) (r : Fin 5632) (hr : r.val = t.val * 256 + q.val), ((cfg0.win 9).blk t).view.emb (ix2 p q) = ix2 p r := by
    intro t p q r hr
    funext a
    apply Fin.ext
    match a with
    | ⟨0, _⟩ => show win0_9.index t 0 * 2048 + 1 * p.val = p.val; rw [(index_9 t).1]; omega
    | ⟨1, _⟩ => show win0_9.index t 1 * 256 + 1 * q.val = r.val; rw [(index_9 t).2]; omega
  refine (dats m 0 c).arrAt_eq_of_cover 9 (G m c : S2048x5632.Idx → EReal) ?_ ?_
  · intro t hf
    have hN : t.val < 22 := lt_of_lt_of_eq t.isLt (show cfg0.N = 22 from N_0)
    funext y
    obtain ⟨p, q, rfl⟩ : ∃ (p : Fin 2048) (q : Fin 256), y = ix2 p q := ⟨y 0, y 1, (ix2_eta y).symm⟩
    rw [View.read_apply, he t p q ⟨t.val * 256 + q.val, by omega⟩ rfl]
    show k0_pay17 (F := Ideal) (iblk m c 2 t) (ix2 p q) = _
    rw [pay17_eq]
    exact blk_2 m c t p q _ rfl
  · intro i
    obtain ⟨p, r, rfl⟩ : ∃ (p : Fin 2048) (r : Fin 5632), i = ix2 p r := ⟨i 0, i 1, (ix2_eta i).symm⟩
    have hN : r.val / 256 < cfg0.N := by rw [show cfg0.N = 22 from N_0]; omega
    refine ⟨⟨r.val / 256, hN⟩, flush9 _, ?_⟩
    rw [← he ⟨r.val / 256, hN⟩ p ⟨r.val % 256, Nat.mod_lt _ (by decide)⟩ r (by simp only; omega)]
    exact View.emb_mem_set _ _

/-- Window 10 is written back at every step. -/
theorem flush10 : ∀ t : Fin cfg0.N, (cfg0.win 10).flush t = true := by decide +kernel

/-- The array of the other factor's weights at the end. -/
theorem array10 : (dats m 0 c).arrAt 10 cfg0.N = (U m c : S2048x5632.Idx → EReal) := by
  have he : ∀ (t : Fin cfg0.N) (p : Fin 2048) (q : Fin 256) (r : Fin 5632) (hr : r.val = t.val * 256 + q.val), ((cfg0.win 10).blk t).view.emb (ix2 p q) = ix2 p r := by
    intro t p q r hr
    funext a
    apply Fin.ext
    match a with
    | ⟨0, _⟩ => show win0_10.index t 0 * 2048 + 1 * p.val = p.val; rw [(index_10 t).1]; omega
    | ⟨1, _⟩ => show win0_10.index t 1 * 256 + 1 * q.val = r.val; rw [(index_10 t).2]; omega
  refine (dats m 0 c).arrAt_eq_of_cover 10 (U m c : S2048x5632.Idx → EReal) ?_ ?_
  · intro t hf
    have hN : t.val < 22 := lt_of_lt_of_eq t.isLt (show cfg0.N = 22 from N_0)
    funext y
    obtain ⟨p, q, rfl⟩ : ∃ (p : Fin 2048) (q : Fin 256), y = ix2 p q := ⟨y 0, y 1, (ix2_eta y).symm⟩
    rw [View.read_apply, he t p q ⟨t.val * 256 + q.val, by omega⟩ rfl]
    show k0_pay18 (F := Ideal) (iblk m c 3 t) (ix2 p q) = _
    rw [pay18_eq]
    exact blk_3 m c t p q _ rfl
  · intro i
    obtain ⟨p, r, rfl⟩ : ∃ (p : Fin 2048) (r : Fin 5632), i = ix2 p r := ⟨i 0, i 1, (ix2_eta i).symm⟩
    have hN : r.val / 256 < cfg0.N := by rw [show cfg0.N = 22 from N_0]; omega
    refine ⟨⟨r.val / 256, hN⟩, flush10 _, ?_⟩
    rw [← he ⟨r.val / 256, hN⟩ p ⟨r.val % 256, Nat.mod_lt _ (by decide)⟩ r (by simp only; omega)]
    exact View.emb_mem_set _ _

/-- Window 11 is written back at every step. -/
theorem flush11 : ∀ t : Fin cfg0.N, (cfg0.win 11).flush t = true := by decide +kernel

/-- The array of the weights back at the end. -/
theorem array11 : (dats m 0 c).arrAt 11 cfg0.N = (D m c : S5632x2048.Idx → EReal) := by
  have he : ∀ (t : Fin cfg0.N) (p : Fin 256) (q : Fin 2048) (r : Fin 5632) (hr : r.val = t.val * 256 + p.val), ((cfg0.win 11).blk t).view.emb (ix2 p q) = ix2 r q := by
    intro t p q r hr
    funext a
    apply Fin.ext
    match a with
    | ⟨0, _⟩ => show win0_11.index t 0 * 256 + 1 * p.val = r.val; rw [(index_11 t).1]; omega
    | ⟨1, _⟩ => show win0_11.index t 1 * 2048 + 1 * q.val = q.val; rw [(index_11 t).2]; omega
  refine (dats m 0 c).arrAt_eq_of_cover 11 (D m c : S5632x2048.Idx → EReal) ?_ ?_
  · intro t hf
    have hN : t.val < 22 := lt_of_lt_of_eq t.isLt (show cfg0.N = 22 from N_0)
    funext y
    obtain ⟨p, q, rfl⟩ : ∃ (p : Fin 256) (q : Fin 2048), y = ix2 p q := ⟨y 0, y 1, (ix2_eta y).symm⟩
    rw [View.read_apply, he t p q ⟨t.val * 256 + p.val, by omega⟩ rfl]
    show k0_pay19 (F := Ideal) (iblk m c 4 t) (ix2 p q) = _
    rw [pay19_eq]
    exact blk_4 m c t p q _ rfl
  · intro i
    obtain ⟨r, q, rfl⟩ : ∃ (r : Fin 5632) (q : Fin 2048), i = ix2 r q := ⟨i 0, i 1, (ix2_eta i).symm⟩
    have hN : r.val / 256 < cfg0.N := by rw [show cfg0.N = 22 from N_0]; omega
    refine ⟨⟨r.val / 256, hN⟩, flush11 _, ?_⟩
    rw [← he ⟨r.val / 256, hN⟩ ⟨r.val % 256, Nat.mod_lt _ (by decide)⟩ q r (by simp only; omega)]
    exact View.emb_mem_set _ _

/-- Window 12 is written back when it moves on, and at the end. -/
theorem flush12 : ∀ t : Fin cfg0.N, (cfg0.win 12).flush t = decide (t.val < 15 ∨ t.val = 21) := by decide +kernel

/-- The array of the mixer's input weights at the end. -/
theorem array12 : (dats m 0 c).arrAt 12 cfg0.N = (I m c : S2048x4096.Idx → EReal) := by
  have he : ∀ (t : Fin cfg0.N) (p : Fin 128) (q : Fin 4096) (r : Fin 2048) (hr : r.val = min t.val 15 * 128 + p.val), ((cfg0.win 12).blk t).view.emb (ix2 p q) = ix2 r q := by
    intro t p q r hr
    funext a
    apply Fin.ext
    match a with
    | ⟨0, _⟩ => show win0_12.index t 0 * 128 + 1 * p.val = r.val; rw [(index_12 t).1]; omega
    | ⟨1, _⟩ => show win0_12.index t 1 * 4096 + 1 * q.val = q.val; rw [(index_12 t).2]; omega
  refine (dats m 0 c).arrAt_eq_of_cover 12 (I m c : S2048x4096.Idx → EReal) ?_ ?_
  · intro t hf
    have hN : t.val < 22 := lt_of_lt_of_eq t.isLt (show cfg0.N = 22 from N_0)
    funext y
    obtain ⟨p, q, rfl⟩ : ∃ (p : Fin 128) (q : Fin 4096), y = ix2 p q := ⟨y 0, y 1, (ix2_eta y).symm⟩
    rw [View.read_apply, he t p q ⟨min t.val 15 * 128 + p.val, by omega⟩ rfl]
    show k0_pay15 (F := Ideal) (iblk m c 6 (cap t)) (ix2 p q) = _
    rw [pay15_eq]
    exact blk_6 m c (cap t) p q _ (show _ = min (min t.val 15) 15 * 128 + p.val by simp only; omega)
  · intro i
    obtain ⟨r, q, rfl⟩ : ∃ (r : Fin 2048) (q : Fin 4096), i = ix2 r q := ⟨i 0, i 1, (ix2_eta i).symm⟩
    by_cases h : r.val / 128 < 15
    · have hN : r.val / 128 < cfg0.N := by rw [show cfg0.N = 22 from N_0]; omega
      refine ⟨⟨r.val / 128, hN⟩, (flush12 _).trans (decide_eq_true (Or.inl h)), ?_⟩
      rw [← he ⟨r.val / 128, hN⟩ ⟨r.val % 128, Nat.mod_lt _ (by decide)⟩ q r (by simp only; omega)]
      exact View.emb_mem_set _ _
    · refine ⟨tl, (flush12 _).trans rfl, ?_⟩
      rw [← he tl ⟨r.val % 128, Nat.mod_lt _ (by decide)⟩ q r (by show r.val = min 21 15 * 128 + r.val % 128; omega)]
      exact View.emb_mem_set _ _

/-- Window 13 is written back when it moves on, and at the end. -/
theorem flush13 : ∀ t : Fin cfg0.N, (cfg0.win 13).flush t = decide (t.val < 15 ∨ t.val = 21) := by decide +kernel

/-- The array of the state space's gate weights at the end. -/
theorem array13 : (dats m 0 c).arrAt 13 cfg0.N = (S m c : S1024x1024.Idx → EReal) := by
  have he : ∀ (t : Fin cfg0.N) (p : Fin 64) (q : Fin 1024) (r : Fin 1024) (hr : r.val = min t.val 15 * 64 + p.val), ((cfg0.win 13).blk t).view.emb (ix2 p q) = ix2 r q := by
    intro t p q r hr
    funext a
    apply Fin.ext
    match a with
    | ⟨0, _⟩ => show win0_13.index t 0 * 64 + 1 * p.val = r.val; rw [(index_13 t).1]; omega
    | ⟨1, _⟩ => show win0_13.index t 1 * 1024 + 1 * q.val = q.val; rw [(index_13 t).2]; omega
  refine (dats m 0 c).arrAt_eq_of_cover 13 (S m c : S1024x1024.Idx → EReal) ?_ ?_
  · intro t hf
    have hN : t.val < 22 := lt_of_lt_of_eq t.isLt (show cfg0.N = 22 from N_0)
    funext y
    obtain ⟨p, q, rfl⟩ : ∃ (p : Fin 64) (q : Fin 1024), y = ix2 p q := ⟨y 0, y 1, (ix2_eta y).symm⟩
    rw [View.read_apply, he t p q ⟨min t.val 15 * 64 + p.val, by omega⟩ rfl]
    show k0_pay16 (F := Ideal) (iblk m c 7 (cap t)) (ix2 p q) = _
    rw [pay16_eq]
    exact blk_7 m c (cap t) p q _ (show _ = min (min t.val 15) 15 * 64 + p.val by simp only; omega)
  · intro i
    obtain ⟨r, q, rfl⟩ : ∃ (r : Fin 1024) (q : Fin 1024), i = ix2 r q := ⟨i 0, i 1, (ix2_eta i).symm⟩
    by_cases h : r.val / 64 < 15
    · have hN : r.val / 64 < cfg0.N := by rw [show cfg0.N = 22 from N_0]; omega
      refine ⟨⟨r.val / 64, hN⟩, (flush13 _).trans (decide_eq_true (Or.inl h)), ?_⟩
      rw [← he ⟨r.val / 64, hN⟩ ⟨r.val % 64, Nat.mod_lt _ (by decide)⟩ q r (by simp only; omega)]
      exact View.emb_mem_set _ _
    · refine ⟨tl, (flush13 _).trans rfl, ?_⟩
      rw [← he tl ⟨r.val % 64, Nat.mod_lt _ (by decide)⟩ q r (by show r.val = min 21 15 * 64 + r.val % 64; omega)]
      exact View.emb_mem_set _ _

/-- The run, with every result named and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v10_0) = out m c
      ∧ r.2.mem ((c.tc : Thread nD τ).loc main_v10_1) = (G m c : S2048x5632.Idx → EReal)
      ∧ r.2.mem ((c.tc : Thread nD τ).loc main_v10_2) = (U m c : S2048x5632.Idx → EReal)
      ∧ r.2.mem ((c.tc : Thread nD τ).loc main_v10_3) = (D m c : S5632x2048.Idx → EReal)
      ∧ r.2.mem ((c.tc : Thread nD τ).loc main_v10_4) = (I m c : S2048x4096.Idx → EReal)
      ∧ r.2.mem ((c.tc : Thread nD τ).loc main_v10_5) = (S m c : S1024x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).1 8).trans (array8 m c), ((h.1 c).1 9).trans (array9 m c), ((h.1 c).1 10).trans (array10 m c),
      ((h.1 c).1 11).trans (array11 m c), ((h.1 c).1 12).trans (array12 m c), ((h.1 c).1 13).trans (array13 m c), h.2.1 c⟩)
    (θ_run_and (run_main m ρ) (frame m ρ))

end Cert.Kernel3Ideal.Head

end
-- ==== Proof.HeadReference.lean ====
/-
  The reference of the first feed-forward block's first 1024 rows, read at an entry.
-/
module

public import proofs.«01_k».proof.Proof.Swiglu
public import proofs.«01_k».proof.Proof.Gen.Reference3Ideal.Run
public import Idealize.ShloMosaic.Lib.Pointwise

@[expose] public section

set_option maxRecDepth 16384

noncomputable section

namespace Cert.Reference3Ideal.Entry

open Cert Cert.Reference3Ideal Cert.Reference3Ideal.Gen Idealize.ShloMosaic Idealize.ShloMosaic.TcCoe Idealize.SL.Sem

/-- The reference's root-mean-square normalisation of every row, with a gain. -/
def rms (x : FVec Ideal S8192x2048 .f32) (g : FVec Ideal S2048 .f32) : FVec Ideal S8192x2048 .f32 :=
  mulf (mulf x (broadcastInDim S8192x2048 ![0, 1] bcast_S8192x1_S8192x2048_0_1
    (Host.rsqrt (addf (Host.divf (broadcastInDim S8192x1 ![0] bcast_S8192_S8192x1_0
        (Host.reduceAdd (mulf x x) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- An inner product of every row with every hidden column. -/
def proj (a : FVec Ideal S8192x2048 .f32) (w : FVec Ideal S2048x5632 .f32) : FVec Ideal S8192x5632 .f32 :=
  Host.dotGeneral dot_S8192x2048_S2048x5632_S8192x5632_1_0_0_1_n_n none a w

/-- An array times its logistic, as the reference spells it. -/
def silu (h : FVec Ideal S8192x5632 .f32) : FVec Ideal S8192x5632 .f32 :=
  mulf h (Host.divf (broadcastInDim S8192x5632 ![] bcast_S_S8192x5632 (constant S_ .f32 0x3F800000#32))
    (addf (broadcastInDim S8192x5632 ![] bcast_S_S8192x5632 (constant S_ .f32 0x3F800000#32)) (Host.exp (Host.negf h))))

/-- The gated block of every row. -/
def gated (a : FVec Ideal S8192x2048 .f32) (wg wu : FVec Ideal S2048x5632 .f32) (wd : FVec Ideal S5632x2048 .f32) :
    FVec Ideal S8192x2048 .f32 :=
  Host.dotGeneral dot_S8192x5632_S5632x2048_S8192x2048_1_0_0_1_n_n none (mulf (silu (proj a wg)) (proj a wu)) wd

/-- The normalisation at an entry. -/
theorem rms_apply (x : FVec Ideal S8192x2048 .f32) (g : FVec Ideal S2048 .f32) (r : Fin 8192) (k : Fin 2048) :
    rms x g (ix2 r k) = Swiglu.norm (fun k => x (ix2 r k)) (fun k => g (ix1 k)) k := by
  unfold rms Swiglu.norm Swiglu.scale
  pointwise

/-- An inner product at an entry. -/
theorem proj_apply (a : FVec Ideal S8192x2048 .f32) (w : FVec Ideal S2048x5632 .f32) (r : Fin 8192) (j : Fin 5632) :
    proj a w (ix2 r j) = ∑ k : Fin 2048, a (ix2 r k) * w (ix2 k j) := by
  unfold proj
  pointwise

/-- The gate at an entry. -/
theorem silu_apply (h : FVec Ideal S8192x5632 .f32) (r : Fin 8192) (j : Fin 5632) :
    silu h (ix2 r j) = h (ix2 r j) * Ideal.logistic (h (ix2 r j)) := by
  unfold silu Ideal.logistic
  pointwise

/-- The gated block at an entry. -/
theorem gated_apply (a : FVec Ideal S8192x2048 .f32) (wg wu : FVec Ideal S2048x5632 .f32) (wd : FVec Ideal S5632x2048 .f32)
    (r : Fin 8192) (q : Fin 2048) :
    gated a wg wu wd (ix2 r q)
      = Swiglu.hidden (fun k => a (ix2 r k)) (fun j k => wg (ix2 k j)) (fun j k => wu (ix2 k j)) (fun j q => wd (ix2 j q)) q := by
  unfold gated Swiglu.hidden Swiglu.unit
  pointwise
  simp only [silu_apply, proj_apply]

/-- The reference's first result, in the steps above. -/
def result (x : FVec Ideal S8192x2048 .f32) (pre post : FVec Ideal S2048 .f32) (wg wu : FVec Ideal S2048x5632 .f32) (wd : FVec Ideal S5632x2048 .f32) :
    FVec Ideal S1024x2048 .f32 :=
  extractStridedSlice S1024x2048 ![0, 0] (addf x (mulf (broadcastInDim S8192x2048 ![] bcast_S_S8192x2048 (constant S_ .f32 0x3F000000#32))
    (rms (gated (rms x pre) wg wu wd) post))) slices_S8192x2048_S1024x2048_0_0

/-- The reference's result at an entry: the branch of its row. -/
theorem result_apply (x : FVec Ideal S8192x2048 .f32) (pre post : FVec Ideal S2048 .f32) (wg wu : FVec Ideal S2048x5632 .f32) (wd : FVec Ideal S5632x2048 .f32)
    (r : Fin 1024) (q : Fin 2048) :
    result x pre post wg wu wd (ix2 r q)
      = Swiglu.branch (fun k => x (ix2 ⟨r.val, by omega⟩ k)) (fun k => pre (ix1 k)) (fun k => post (ix1 k))
          (fun j k => wg (ix2 k j)) (fun j k => wu (ix2 k j)) (fun j q => wd (ix2 j q)) q := by
  unfold result
  have e : (fun A : FVec Ideal S8192x2048 .f32 => extractStridedSlice S1024x2048 ![0, 0] A slices_S8192x2048_S1024x2048_0_0 (ix2 r q))
      = fun A => A (ix2 ⟨r.val, by omega⟩ q) := by
    funext A
    pointwise
  refine (congrFun e _).trans ?_
  rw [addf_apply, mulf_apply, rms_apply]
  simp only [gated_apply, rms_apply]
  unfold Swiglu.branch
  exact congrArg _ (mul_left_comm _ _ _)

end Cert.Reference3Ideal.Entry

end
-- ==== Proof.Head.lean ====
/-
  The first 1024 rows' feed-forward call and its reference give the same six arrays.
-/
module

public import proofs.«01_k».proof.Defs
public import proofs.«01_k».proof.Proof.HeadValue
public import proofs.«01_k».proof.Proof.HeadReference

@[expose] public section

noncomputable section

namespace Cert.Head

open Cert Idealize.ShloMosaic Idealize.ShloMosaic.TcCoe Idealize.SL.Sem

variable (m : (ℓ : Loc Kernel3Ideal.nD Kernel3Ideal.τ Kernel3Ideal.sig) → Buf (Elt Ideal) ℓ) (c : Dev Kernel3Ideal.nD)

/-- The reference's rows, on the kernel's arguments, are the array the kernel leaves. -/
theorem out_eq :
    (Reference3Ideal.Entry.result (Kernel3Ideal.Head.X m c)
      (shapeCast Kernel3Ideal.S2048 (m ((c.tc : Thread Kernel3Ideal.nD Kernel3Ideal.τ).loc Kernel3Ideal.main_arg1)) Kernel3Ideal.Gen.shapeCasts_S1x2048_S2048)
      (shapeCast Kernel3Ideal.S2048 (m ((c.tc : Thread Kernel3Ideal.nD Kernel3Ideal.τ).loc Kernel3Ideal.main_arg5)) Kernel3Ideal.Gen.shapeCasts_S1x2048_S2048)
      (Kernel3Ideal.Head.G m c) (Kernel3Ideal.Head.U m c) (Kernel3Ideal.Head.D m c) : FVec Ideal Kernel3Ideal.S1024x2048 .f32) = Kernel3Ideal.Head.out m c := by
  funext y
  obtain ⟨r, q, rfl⟩ : ∃ (r : Fin 1024) (q : Fin 2048), y = ix2 r q := ⟨y 0, y 1, (ix2_eta y).symm⟩
  exact (Reference3Ideal.Entry.result_apply _ _ _ _ _ _ r q).trans rfl

omit m c in
/-- Kernel and reference compute the same functions over the extended reals. -/
theorem algebraic : algebraic_Kernel3Ideal_Reference3Ideal := by
  intro m ρ m' ρ' _ hagree
  refine ⟨_, _, _, _, _, _, Kernel3Ideal.Head.run m ρ, ?_⟩
  refine (θ_run Reference3Ideal.defs _ _).mono (fun _ h c => ?_) (Reference3Ideal.Value.run (F := Ideal) m' ρ')
  obtain ⟨h0, h1, h2, h3, h4, h5, h6, h7⟩ := hagree c
  obtain ⟨e0, e1, e2, e3, e4, e5, e⟩ := h c
  refine ⟨e0.trans (Eq.trans ?_ (out_eq m c)), e1.trans ?_, e2.trans ?_, e3.trans ?_, e4.trans ?_, e5.trans ?_, e⟩
  · unfold Kernel3Ideal.Head.X Kernel3Ideal.Head.G Kernel3Ideal.Head.U Kernel3Ideal.Head.D
    rw [← h0, ← h1, ← h2, ← h3, ← h4, ← h5]
    rfl
  · rw [h2]
    rfl
  · rw [h3]
    rfl
  · rw [h4]
    rfl
  · rw [h6]
    rfl
  · rw [h7]
    rfl

end Cert.Head

end
-- ==== Proof.HeadKernel.lean ====
/-
  The frame of the printed kernel, from the idealised kernel's run. The two programs have one text, so their tables of
  bodies are equal, and the run, which holds over any float values, is read over bits.
-/
module

public import proofs.«01_k».proof.Defs
public import proofs.«01_k».proof.Proof.Gen.Kernel3
public import proofs.«01_k».proof.Proof.HeadFrame

@[expose] public section

noncomputable section

namespace Cert.Head

open Idealize.ShloMosaic Idealize.SL.Sem

set_option maxHeartbeats 4000000 in
/-- The two kernels run one body. -/
theorem body_eq : Kernel3.defs₀ (F := Bits) = Kernel3Ideal.defs₀ (F := Bits) := by
  unfold Kernel3.defs₀ Kernel3Ideal.defs₀
  refine congrArg Defs.onTc (funext fun l => funext fun p => ?_)
  match l, p with
  | 0, (t, s) => rfl
  | ⟨_ + 1, h⟩, _ => exact absurd h (Nat.not_lt.2 (Nat.le_add_left _ _))

/-- They run it through one pipeline. -/
theorem defs_eq : Kernel3.defs (F := Bits) = Kernel3Ideal.defs (F := Bits) :=
  congrArg (Pipeline.defs Kernel3Ideal.pcfgs) body_eq

/-- The printed kernel runs through, changes no argument and leaves every semaphore at zero. -/
theorem frame_kernel : quiescent_Kernel3 := fun m ρ _ =>
  (congrArg (fun d => θ_run d (onTc (τ := Kernel3.τ) (Kernel3.main (F := Bits))) ⟨m, fun _ => 0, ρ⟩ _) defs_eq).mpr
    (Cert.Kernel3Ideal.Head.frame (F := Bits) m ρ)

end Cert.Head

end
-- ==== Proof.Rows.lean ====
/-
  The rows around the mixer as functions on the extended reals: the activations come in two arrays, the first 1024 rows
  and the rest, the input projection multiplies
  them, normalised, with its weights, and the output projection adds a normalised product to them. Nothing here mentions a program.
-/
module

public import proofs.«01_k».proof.Proof.Swiglu

@[expose] public section

noncomputable section

namespace Cert.Rows

open Idealize.ShloMosaic
open scoped BigOperators

/-- Row `r` of two arrays, one below the other. -/
def two (xh : Vec Ideal ⟨2, ![1024, 2048]⟩ .f32) (xt : Vec Ideal ⟨2, ![7168, 2048]⟩ .f32) (r : Fin 8192) (k : Fin 2048) : EReal :=
  if h : r.val < 1024 then xh (ix2 ⟨r.val, h⟩ k) else xt (ix2 ⟨r.val - 1024, by omega⟩ k)

/-- A row of 1024 attention entries and 1024 state-space entries, times the weights. -/
def mixed (a s : Fin 1024 → EReal) (w : Fin 2048 → Fin 2048 → EReal) (q : Fin 2048) : EReal :=
  (∑ j : Fin 1024, a j * w ⟨j.val, by omega⟩ q) + ∑ j : Fin 1024, s j * w ⟨1024 + j.val, by omega⟩ q

/-- The residual row plus the normalised product. -/
def out (x M g : Fin 2048 → EReal) (q : Fin 2048) : EReal := x q + M q * Swiglu.scale M * g q

/-- A row times the weights. -/
def lin (a : Fin 2048 → EReal) (w : Fin 2048 → Fin 4096 → EReal) (q : Fin 4096) : EReal := ∑ k : Fin 2048, a k * w k q

/-- The scaling of the queries. -/
def scaling : EReal := Ideal.ofBits .f32 0x3E38AA3B#32

/-- A row of queries, keys and values: the first 1024 entries are scaled. -/
def heads (a : Fin 2048 → EReal) (w : Fin 2048 → Fin 4096 → EReal) (q : Fin 3072) : EReal :=
  if q.val < 1024 then lin a w ⟨q.val, by omega⟩ * scaling else lin a w ⟨q.val, by omega⟩

end Cert.Rows

end
-- ==== Proof.InProjBody.lean ====
/-
  What the input projection's body stores, entry by entry.
-/
module

public import proofs.«01_k».proof.Proof.Rows
public import proofs.«01_k».proof.Proof.Gen.Kernel4Ideal.Frame
public import Idealize.ShloMosaic.Lib.Pipeline.Value
public import Idealize.ShloMosaic.Lib.Tactic
public import Idealize.ShloMosaic.Lib.Pointwise

@[expose] public section

set_option maxRecDepth 16384

noncomputable section

namespace Cert.Kernel4Ideal.In

open Cert Cert.Kernel4Ideal Cert.Kernel4Ideal.Gen Idealize.ShloMosaic Idealize.ShloMosaic.TcCoe Idealize.SL.Sem
open scoped BigOperators

/-- The zero offset, spelt two ways. -/
theorem hz : (![0, 0] : Fin 2 → Nat) = fun _ => 0 := funext fun a => by fin_cases a <;> rfl

variable (i : grid0.Coords) (x0 x1 : Vec Ideal S512x2048 .f32) (x2 : Vec Ideal S1x2048 .f32) (x3 : Vec Ideal S2048x4096 .bf16)

/-- The row a step normalises, taken from one of two blocks. -/
def src (p : Fin 512) (k : Fin 2048) : EReal :=
  Scalar.select (Scalar.cmpi .slt (BitVec.ofNat 32 (i 0).val) 2#32) (x0 (ix2 p k)) (x1 (ix2 p k))

/-- A normalised row of a step. -/
def nrm (p : Fin 512) : Fin 2048 → EReal := Swiglu.norm (src i x0 x1 p) (fun k => x2 (ix2 0 k))

/-- The normalised rows, as the body computes them. -/
theorem pay3_apply (p : Fin 512) (k : Fin 2048) : k0_pay3 (F := Ideal) i x0 x1 x2 (ix2 p k) = nrm i x0 x1 x2 p k := by
  have hs : ∀ (b : BitVec 1) (k : Fin 2048), (Scalar.select b x0 x1 : Vec Ideal S512x2048 .f32) (ix2 p k) = Scalar.select b (x0 (ix2 p k)) (x1 (ix2 p k)) := by
    intro b k
    unfold Scalar.select
    split <;> rfl
  unfold k0_pay3 nrm src Swiglu.norm Swiglu.scale
  dsimp only
  generalize Scalar.cmpi .slt (BitVec.ofNat 32 (i 0).val) 2#32 = b
  simp only [← hs]
  generalize (Scalar.select b x0 x1 : Vec Ideal S512x2048 .f32) = x
  pointwise

/-- The queries a step stores. -/
theorem pay4_apply (w : Vec Ideal S2048x1024 .bf16) (p : Fin 512) (j : Fin 1024) :
    k0_pay4 (F := Ideal) i x0 x1 x2 w (ix2 p j) = (∑ k : Fin 2048, nrm i x0 x1 x2 p k * w (ix2 k j)) * Rows.scaling := by
  simp only [← pay3_apply]
  unfold k0_pay4 Rows.scaling
  generalize k0_pay3 (F := Ideal) i x0 x1 x2 = x
  pointwise

/-- The keys a step stores. -/
theorem pay5_apply (w : Vec Ideal S2048x1024 .bf16) (p : Fin 512) (j : Fin 1024) :
    k0_pay5 (F := Ideal) i x0 x1 x2 w (ix2 p j) = ∑ k : Fin 2048, nrm i x0 x1 x2 p k * w (ix2 k j) := by
  simp only [← pay3_apply]
  unfold k0_pay5
  generalize k0_pay3 (F := Ideal) i x0 x1 x2 = x
  pointwise

/-- The normalised rows, read again. -/
theorem pay7_eq : k0_pay7 (F := Ideal) i x0 x1 x2 x3 = k0_pay3 i x0 x1 x2 := by
  unfold k0_pay7
  simp only [View.ld_unit_zero (S := S512x2048) hz, View.ld_unit_zero (S := S1x2048) hz]

/-- The values a step stores. -/
theorem pay1_apply (w : Vec Ideal S2048x1024 .bf16) (p : Fin 512) (j : Fin 1024) :
    k0_pay1 (F := Ideal) (k0_pay7 i x0 x1 x2 x3) (k0_pay6 w) (constant S512x1024 .f32 0x00000000#32) (ix2 p j)
      = ∑ k : Fin 2048, nrm i x0 x1 x2 p k * w (ix2 k j) := by
  rw [pay7_eq]
  simp only [← pay3_apply]
  unfold k0_pay1 k0_pay6
  generalize k0_pay3 (F := Ideal) i x0 x1 x2 = x
  pointwise

/-- The state space's inputs a step stores. -/
theorem pay2_apply (w : Vec Ideal S2048x1024 .bf16) (p : Fin 512) (j : Fin 1024) :
    k0_pay2 (F := Ideal) (k0_pay7 i x0 x1 x2 x3) w (ix2 p j) = ∑ k : Fin 2048, nrm i x0 x1 x2 p k * w (ix2 k j) := by
  rw [pay7_eq]
  simp only [← pay3_apply]
  unfold k0_pay2
  generalize k0_pay3 (F := Ideal) i x0 x1 x2 = x
  pointwise

/-- A load of 1024 columns of the weights, at an entry. -/
theorem ld_cols (o : ℕ) (ho : o + 1024 ≤ 4096) (inb : ∀ a, ![0, o] a + S2048x1024.size a ≤ S2048x4096.size a) (k : Fin 2048) (j : Fin 1024) :
    (View.ld x3 (Rect.unit (s := S2048x4096) ![0, o] S2048x1024.size inb) : Vec Ideal S2048x1024 .bf16) (ix2 k j) = x3 (ix2 k ⟨o + j.val, by omega⟩) := by
  show x3 _ = _
  congr 1
  funext a
  apply Fin.ext
  match a with
  | ⟨0, _⟩ => show 0 + 1 * k.val = k.val; omega
  | ⟨1, _⟩ => show o + 1 * j.val = o + j.val; omega

/-- The state space's block of a step at an entry. -/
theorem out5_apply (p : Fin 512) (j : Fin 1024) :
    out0_5 (F := Ideal) i x0 x1 x2 x3 (ix2 p j) = Rows.lin (nrm i x0 x1 x2 p) (fun k q => x3 (ix2 k q)) ⟨3072 + j.val, by omega⟩ := by
  unfold out0_5
  rw [View.canon_unit_zero hz, pay2_apply]
  unfold Rows.lin
  exact Finset.sum_congr rfl fun k _ => congrArg _ (ld_cols x3 3072 (by decide) _ k j)

/-- Where a block of 1024 columns of a step lies. -/
theorem emb_cols (o : ℕ) (ho : o + 1024 ≤ 3072) (inb : ∀ a, ![0, o] a + S512x1024.size a ≤ S512x3072.size a) (p : Fin 512) (j : Fin 1024) :
    (Rect.unit (s := S512x3072) ![0, o] S512x1024.size inb).emb (ix2 p j) = ix2 p ⟨o + j.val, by omega⟩ := by
  funext a
  apply Fin.ext
  match a with
  | ⟨0, _⟩ => show 0 + 1 * p.val = p.val; omega
  | ⟨1, _⟩ => show o + 1 * j.val = o + j.val; omega

/-- Queries, keys and values of a step at an entry. -/
theorem out4_apply (p : Fin 512) (q : Fin 3072) :
    out0_4 (F := Ideal) i x0 x1 x2 x3 (ix2 p q) = Rows.heads (nrm i x0 x1 x2 p) (fun k q => x3 (ix2 k q)) q := by
  unfold out0_4
  refine (View.canon_apply_of_pieces (fun y : S512x3072.Idx => Rows.heads (nrm i x0 x1 x2 (y 0)) (fun k q => x3 (ix2 k q)) (y 1)) _ ?_ (ix2 p q) (cover0_4 _ _ _ _)).trans rfl
  intro pc hpc x
  simp only [List.mem_cons, List.not_mem_nil, or_false] at hpc
  rcases hpc with rfl | rfl | rfl
  · obtain ⟨p, j, rfl⟩ : ∃ (p : Fin 512) (j : Fin 1024), x = ix2 p j := ⟨x 0, x 1, (ix2_eta x).symm⟩
    dsimp only
    rw [emb_cols 2048 (by decide) _ p j]
    refine (pay1_apply i x0 x1 x2 x3 _ p j).trans ?_
    show _ = Rows.heads (nrm i x0 x1 x2 p) (fun k q => x3 (ix2 k q)) ⟨2048 + j.val, by omega⟩
    unfold Rows.heads
    rw [if_neg (show ¬ 2048 + j.val < 1024 by omega)]
    exact Finset.sum_congr rfl fun k _ => congrArg _ (ld_cols x3 2048 (by decide) _ k j)
  · obtain ⟨p, j, rfl⟩ : ∃ (p : Fin 512) (j : Fin 1024), x = ix2 p j := ⟨x 0, x 1, (ix2_eta x).symm⟩
    dsimp only
    rw [emb_cols 1024 (by decide) _ p j]
    simp only [View.ld_unit_zero (S := S512x2048) hz, View.ld_unit_zero (S := S1x2048) hz]
    refine (pay5_apply i x0 x1 x2 _ p j).trans ?_
    show _ = Rows.heads (nrm i x0 x1 x2 p) (fun k q => x3 (ix2 k q)) ⟨1024 + j.val, by omega⟩
    unfold Rows.heads
    rw [if_neg (show ¬ 1024 + j.val < 1024 by omega)]
    exact Finset.sum_congr rfl fun k _ => congrArg _ (ld_cols x3 1024 (by decide) _ k j)
  · obtain ⟨p, j, rfl⟩ : ∃ (p : Fin 512) (j : Fin 1024), x = ix2 p j := ⟨x 0, x 1, (ix2_eta x).symm⟩
    dsimp only
    rw [emb_cols 0 (by decide) _ p j]
    simp only [View.ld_unit_zero (S := S512x2048) hz, View.ld_unit_zero (S := S1x2048) hz]
    refine (pay4_apply i x0 x1 x2 _ p j).trans ?_
    show _ = Rows.heads (nrm i x0 x1 x2 p) (fun k q => x3 (ix2 k q)) ⟨0 + j.val, by omega⟩
    unfold Rows.heads
    rw [if_pos (show 0 + j.val < 1024 by omega)]
    refine congrArg (· * Rows.scaling) ?_
    exact Finset.sum_congr rfl fun k _ => congrArg _ (ld_cols x3 0 (by decide) _ k j)

end Cert.Kernel4Ideal.In

end
-- ==== Proof.InProjBlocks.lean ====
/-
  What the input projection's windows hold at a grid point, as entries of the arrays the call is given, and the
  two arrays the call leaves.
-/
module

public import proofs.«01_k».proof.Proof.InProjBody
public import proofs.«01_k».proof.Proof.Gen.Kernel4Ideal.Value

@[expose] public section

set_option maxRecDepth 16384

noncomputable section

namespace Cert.Kernel4Ideal.In

open Cert Cert.Kernel4Ideal Cert.Kernel4Ideal.Gen Idealize.ShloMosaic Idealize.ShloMosaic.TcCoe Idealize.SL.Sem
open scoped BigOperators

variable (m : (ℓ : Loc nD τ sig) → Buf (Elt Ideal) ℓ) (c : Dev nD)

/-- The first 1024 rows. -/
def head : Vec Ideal S1024x2048 .f32 := m ((c : Thread nD τ).loc main_arg0)
/-- The other rows. -/
def tail : Vec Ideal S7168x2048 .f32 := m ((c : Thread nD τ).loc main_arg1)
/-- The gain. -/
def gain (k : Fin 2048) : EReal := (shapeCast S2048 (m ((c : Thread nD τ).loc main_arg2)) shapeCasts_S1x2048_S2048 : Vec Ideal S2048 .f32) (ix1 k)
/-- The weights. -/
def W : Vec Ideal S2048x4096 .f32 := shapeCast S2048x4096 (m ((c : Thread nD τ).loc main_arg3)) shapeCasts_S1x2048x4096_S2048x4096

/-- The cast of the weights changes nothing. -/
theorem V_v3 (y : S2048x4096.Idx) : V m c main_v3 y = W m c y := rfl
/-- The gain, laid out as a row. -/
theorem V_v1 (k : Fin 2048) : (V m c main_v1 : Vec Ideal S1x2048 .f32) (ix2 0 k) = gain m c k := by
  show (shapeCast S1x2048 (shapeCast S2048 (m ((c : Thread nD τ).loc main_arg2)) shapeCasts_S1x2048_S2048 : Vec Ideal S2048 .f32) shapeCasts_S2048_S1x2048 : Vec Ideal S1x2048 .f32) (ix2 0 k) = gain m c k
  unfold gain
  pointwise

/-- The window over the first rows stops at its second block. -/
theorem index_0 : ∀ t : Fin cfg0.N, win0_0.index t (0 : Fin 2) = min t.val 1 ∧ win0_0.index t (1 : Fin 2) = 0 :=
  (by decide +kernel : ∀ t : Fin grid0.N, win0_0.index t (0 : Fin 2) = min t.val 1 ∧ win0_0.index t (1 : Fin 2) = 0)
/-- The window over the other rows starts two steps late. -/
theorem index_1 : ∀ t : Fin cfg0.N, win0_1.index t (0 : Fin 2) = t.val - 2 ∧ win0_1.index t (1 : Fin 2) = 0 :=
  (by decide +kernel : ∀ t : Fin grid0.N, win0_1.index t (0 : Fin 2) = t.val - 2 ∧ win0_1.index t (1 : Fin 2) = 0)
/-- The gain's window stays. -/
theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The weights' window stays. -/
theorem index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- The first result's window moves with the step. -/
theorem index_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
/-- The second result's window moves with the step. -/
theorem index_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
/-- Every step writes its block of the first result back. -/
theorem flush_4 : ∀ t : Fin cfg0.N, (cfg0.win 4).flush t = true :=
  (by decide +kernel : ∀ t : Fin grid0.N, (cfg0.win 4).flush t = true)
/-- Every step writes its block of the second result back. -/
theorem flush_5 : ∀ t : Fin cfg0.N, (cfg0.win 5).flush t = true :=
  (by decide +kernel : ∀ t : Fin grid0.N, (cfg0.win 5).flush t = true)
/-- The first two steps take the first rows. -/
theorem early : ∀ t : Fin cfg0.N, Scalar.cmpi .slt (BitVec.ofNat 32 ((grid0.coords t) 0).val) 2#32 = if t.val < 2 then 1 else 0 :=
  (by decide +kernel : ∀ t : Fin grid0.N, Scalar.cmpi .slt (BitVec.ofNat 32 ((grid0.coords t) 0).val) 2#32 = if t.val < 2 then 1 else 0)

/-- The block of the first rows, in the first two steps. -/
theorem blk_0 (t : Fin cfg0.N) (ht : t.val < 2) (p : Fin 512) (k : Fin 2048) (r : Fin 1024) (hr : r.val = t.val * 512 + p.val) :
    iblk m c 0 t (ix2 p k) = head m c (ix2 r k) := by
  unfold iblk
  rw [View.read_apply]
  show V m c main_arg0 _ = head m c _
  rw [V_main_arg0]
  unfold head
  congr 1
  funext a
  apply Fin.ext
  match a with
  | ⟨0, _⟩ => show win0_0.index t 0 * 512 + 1 * p.val = r.val; rw [(index_0 t).1]; omega
  | ⟨1, _⟩ => show win0_0.index t 1 * 2048 + 1 * k.val = k.val; rw [(index_0 t).2]; omega

/-- The block of the other rows, from the third step on. -/
theorem blk_1 (t : Fin cfg0.N) (ht : ¬ t.val < 2) (p : Fin 512) (k : Fin 2048) (r : Fin 7168) (hr : r.val + 1024 = t.val * 512 + p.val) :
    iblk m c 1 t (ix2 p k) = tail m c (ix2 r k) := by
  unfold iblk
  rw [View.read_apply]
  show V m c main_arg1 _ = tail m c _
  rw [V_main_arg1]
  unfold tail
  congr 1
  funext a
  apply Fin.ext
  match a with
  | ⟨0, _⟩ => show win0_1.index t 0 * 512 + 1 * p.val = r.val; rw [(index_1 t).1]; omega
  | ⟨1, _⟩ => show win0_1.index t 1 * 2048 + 1 * k.val = k.val; rw [(index_1 t).2]; omega

/-- The gain's block. -/
theorem blk_2 (t : Fin cfg0.N) (k : Fin 2048) : iblk m c 2 t (ix2 0 k) = gain m c k := by
  rw [← V_v1]
  unfold iblk
  rw [View.read_apply]
  show V m c main_v1 _ = V m c main_v1 _
  congr 1
  funext a
  apply Fin.ext
  match a with
  | ⟨0, _⟩ => show win0_2.index t 0 * 1 + 1 * 0 = 0; rw [(index_2 t).1]
  | ⟨1, _⟩ => show win0_2.index t 1 * 2048 + 1 * k.val = k.val; rw [(index_2 t).2]; omega

/-- The weights' block. -/
theorem blk_3 (t : Fin cfg0.N) (k : Fin 2048) (q : Fin 4096) :
    iblk m c 3 t (ix2 k q) = W m c (ix2 k q) := by
  unfold iblk
  rw [View.read_apply]
  show V m c main_v3 _ = W m c _
  rw [V_v3]
  congr 1
  funext a
  apply Fin.ext
  match a with
  | ⟨0, _⟩ => show win0_3.index t 0 * 2048 + 1 * k.val = k.val; rw [(index_3 t).1]; omega
  | ⟨1, _⟩ => show win0_3.index t 1 * 4096 + 1 * q.val = q.val; rw [(index_3 t).2]; omega

/-- The row a step normalises. -/
theorem source (t : Fin cfg0.N) (p : Fin 512) (r : Fin 8192) (hr : r.val = t.val * 512 + p.val) :
    src (grid0.coords t) (iblk m c 0 t) (iblk m c 1 t) p = Rows.two (head m c) (tail m c) r := by
  funext k
  unfold src
  rw [early t]
  unfold Rows.two Scalar.select
  by_cases h : t.val < 2
  · rw [if_pos h, if_pos rfl, dif_pos (by omega)]
    exact blk_0 m c t h p k ⟨r.val, by omega⟩ hr
  · rw [if_neg h, if_neg (by decide), dif_neg (by omega)]
    exact blk_1 m c t h p k ⟨r.val - 1024, by omega⟩ (by simp only; omega)

/-- A normalised row. -/
def row (r : Fin 8192) : Fin 2048 → EReal := Swiglu.norm (Rows.two (head m c) (tail m c) r) (gain m c)

/-- The normalised row of a step. -/
theorem nrm_eq (t : Fin cfg0.N) (p : Fin 512) (r : Fin 8192) (hr : r.val = t.val * 512 + p.val) :
    nrm (grid0.coords t) (iblk m c 0 t) (iblk m c 1 t) (iblk m c 2 t) p = row m c r := by
  unfold nrm row
  rw [source m c t p r hr, show (fun k => iblk m c 2 t (ix2 0 k)) = gain m c from funext fun k => blk_2 m c t k]

/-- The array of queries, keys and values, at an entry. -/
theorem array4_apply (r : Fin 8192) (q : Fin 3072) :
    (dats m 0 c).arrAt 4 cfg0.N (ix2 r q) = Rows.heads (row m c r) (fun k q => W m c (ix2 k q)) q := by
  have hN : r.val / 512 < cfg0.N := by
    show r.val / 512 < 16
    omega
  have hb := congrFun (Value.blocks4 m c ⟨r.val / 512, hN⟩ (flush_4 _)) (ix2 ⟨r.val % 512, Nat.mod_lt _ (by decide)⟩ q)
  rw [View.read_apply] at hb
  have he : ((cfg0.win 4).blk ⟨r.val / 512, hN⟩).view.emb (ix2 ⟨r.val % 512, Nat.mod_lt _ (by decide)⟩ q) = ix2 r q := by
    funext a
    apply Fin.ext
    match a with
    | ⟨0, _⟩ => show win0_4.index ⟨r.val / 512, hN⟩ 0 * 512 + 1 * (r.val % 512) = r.val; rw [(index_4 _).1]; simp only; omega
    | ⟨1, _⟩ => show win0_4.index ⟨r.val / 512, hN⟩ 1 * 3072 + 1 * q.val = q.val; rw [(index_4 _).2]; omega
  rw [he] at hb
  refine hb.trans ?_
  rw [Value.flushed4]
  show out0_4 (F := Ideal) (grid0.coords _) _ _ _ _ (ix2 ⟨r.val % 512, Nat.mod_lt _ (by decide)⟩ q) = _
  rw [out4_apply, nrm_eq m c ⟨r.val / 512, hN⟩ ⟨r.val % 512, Nat.mod_lt _ (by decide)⟩ r (by simp only; omega)]
  simp only [blk_3]

/-- The array of the state space's inputs, at an entry. -/
theorem array5_apply (r : Fin 8192) (q : Fin 1024) :
    (dats m 0 c).arrAt 5 cfg0.N (ix2 r q) = Rows.lin (row m c r) (fun k q => W m c (ix2 k q)) ⟨3072 + q.val, by omega⟩ := by
  have hN : r.val / 512 < cfg0.N := by
    show r.val / 512 < 16
    omega
  have hb := congrFun (Value.blocks5 m c ⟨r.val / 512, hN⟩ (flush_5 _)) (ix2 ⟨r.val % 512, Nat.mod_lt _ (by decide)⟩ q)
  rw [View.read_apply] at hb
  have he : ((cfg0.win 5).blk ⟨r.val / 512, hN⟩).view.emb (ix2 ⟨r.val % 512, Nat.mod_lt _ (by decide)⟩ q) = ix2 r q := by
    funext a
    apply Fin.ext
    match a with
    | ⟨0, _⟩ => show win0_5.index ⟨r.val / 512, hN⟩ 0 * 512 + 1 * (r.val % 512) = r.val; rw [(index_5 _).1]; simp only; omega
    | ⟨1, _⟩ => show win0_5.index ⟨r.val / 512, hN⟩ 1 * 1024 + 1 * q.val = q.val; rw [(index_5 _).2]; omega
  rw [he] at hb
  refine hb.trans ?_
  rw [Value.flushed5]
  show out0_5 (F := Ideal) (grid0.coords _) _ _ _ _ (ix2 ⟨r.val % 512, Nat.mod_lt _ (by decide)⟩ q) = _
  rw [out5_apply, nrm_eq m c ⟨r.val / 512, hN⟩ ⟨r.val % 512, Nat.mod_lt _ (by decide)⟩ r (by simp only; omega)]
  simp only [blk_3]

end Cert.Kernel4Ideal.In

end
-- ==== Proof.InProjReference.lean ====
/-
  The reference of the input projection, entry by entry.
-/
module

public import proofs.«01_k».proof.Proof.Rows
public import proofs.«01_k».proof.Proof.Gen.Reference4Ideal.Run
public import Idealize.ShloMosaic.Lib.Pipeline.Value
public import Idealize.ShloMosaic.Lib.Pointwise

@[expose] public section

noncomputable section

namespace Cert.Reference4Ideal.Entry

open Cert Cert.Reference4Ideal Cert.Reference4Ideal.Gen Idealize.ShloMosaic Idealize.ShloMosaic.TcCoe Idealize.SL.Sem
open scoped BigOperators

/-- The residual rows, one array below the other. -/
def rows (xh : FVec Ideal S1024x2048 .f32) (xt : FVec Ideal S7168x2048 .f32) : FVec Ideal S8192x2048 .f32 :=
  concatenate S8192x2048 0 [⟨S1024x2048, xh⟩, ⟨S7168x2048, xt⟩] concatenates_S1024x2048_S7168x2048_S8192x2048_d0

/-- A product with the weights. -/
def prod (y : FVec Ideal S8192x2048 .f32) (w : FVec Ideal S2048x4096 .f32) : FVec Ideal S8192x4096 .f32 :=
  Host.dotGeneral dot_S8192x2048_S2048x4096_S8192x4096_1_0_0_1_n_n none y w

/-- The first 3072 columns, the first 1024 of them scaled. -/
def heads (y : FVec Ideal S8192x4096 .f32) : FVec Ideal S8192x3072 .bf16 :=
  truncf .bf16 (concatenate S8192x3072 1 [⟨S8192x1024, (mulf (extractStridedSlice S8192x1024 ![0, 0] y slices_S8192x4096_S8192x1024_0_0) (broadcastInDim S8192x1024 ![] bcast_S_S8192x1024 (constant S_ .f32 0x3E38AA3B#32)) : FVec Ideal S8192x1024 .f32)⟩,
    ⟨S8192x2048, (extractStridedSlice S8192x2048 ![0, 1024] y slices_S8192x4096_S8192x2048_0_1024 : FVec Ideal S8192x2048 .f32)⟩] concatenates_S8192x1024_S8192x2048_S8192x3072_d1) bitsLt_bf16_f32

/-- The last 1024 columns. -/
def rest (y : FVec Ideal S8192x4096 .f32) : FVec Ideal S8192x1024 .f32 :=
  extractStridedSlice S8192x1024 ![0, 3072] y slices_S8192x4096_S8192x1024_0_3072

/-- The root-mean-square normalisation of every row, with a gain. -/
def rms (x : FVec Ideal S8192x2048 .f32) (g : FVec Ideal S2048 .f32) : FVec Ideal S8192x2048 .f32 :=
  mulf (mulf x (broadcastInDim S8192x2048 ![0, 1] bcast_S8192x1_S8192x2048_0_1
    (Host.rsqrt (addf (Host.divf (broadcastInDim S8192x1 ![0] bcast_S8192_S8192x1_0
        (Host.reduceAdd (mulf x x) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The residual rows at an entry. -/
theorem rows_apply (xh : FVec Ideal S1024x2048 .f32) (xt : FVec Ideal S7168x2048 .f32) (r : Fin 8192) (k : Fin 2048) :
    rows xh xt (ix2 r k) = Rows.two xh xt r k := by
  unfold rows Rows.two
  pointwise

/-- The product at an entry. -/
theorem prod_apply (y : FVec Ideal S8192x2048 .f32) (w : FVec Ideal S2048x4096 .f32) (r : Fin 8192) (q : Fin 4096) :
    prod y w (ix2 r q) = Rows.lin (fun k => y (ix2 r k)) (fun k q => w (ix2 k q)) q := by
  unfold prod Rows.lin
  pointwise

/-- The first 3072 columns at an entry. -/
theorem heads_apply (y : FVec Ideal S8192x4096 .f32) (r : Fin 8192) (q : Fin 3072) :
    heads y (ix2 r q) = if q.val < 1024 then y (ix2 r ⟨q.val, by omega⟩) * Rows.scaling else y (ix2 r ⟨q.val, by omega⟩) := by
  unfold heads Rows.scaling
  pointwise
  by_cases h : q.val < 1024
  · rw [dif_pos h, if_pos h]
  · rw [dif_neg h, if_neg h]
    congr 2
    exact Fin.ext (by simp only; omega)

/-- The last 1024 columns at an entry. -/
theorem rest_apply (y : FVec Ideal S8192x4096 .f32) (r : Fin 8192) (q : Fin 1024) :
    rest y (ix2 r q) = y (ix2 r ⟨3072 + q.val, by omega⟩) := by
  unfold rest
  pointwise

/-- The normalisation at an entry. -/
theorem rms_apply (x : FVec Ideal S8192x2048 .f32) (g : FVec Ideal S2048 .f32) (r : Fin 8192) (k : Fin 2048) :
    rms x g (ix2 r k) = Swiglu.norm (fun k => x (ix2 r k)) (fun k => g (ix1 k)) k := by
  unfold rms Swiglu.norm Swiglu.scale
  pointwise

variable (xh : FVec Ideal S1024x2048 .f32) (xt : FVec Ideal S7168x2048 .f32) (g : FVec Ideal S2048 .f32) (w : FVec Ideal S2048x4096 .f32)

/-- The reference's product, in the steps above. -/
def result : FVec Ideal S8192x4096 .f32 := prod (rms (rows xh xt) g) w

/-- The reference's product at an entry. -/
theorem result_apply (r : Fin 8192) (q : Fin 4096) :
    result xh xt g w (ix2 r q) = Rows.lin (Swiglu.norm (Rows.two xh xt r) (fun k => g (ix1 k))) (fun k q => w (ix2 k q)) q := by
  unfold result
  rw [prod_apply]
  simp only [rms_apply, rows_apply]

/-- The reference's queries, keys and values at an entry. -/
theorem heads_result (r : Fin 8192) (q : Fin 3072) :
    heads (result xh xt g w) (ix2 r q) = Rows.heads (Swiglu.norm (Rows.two xh xt r) (fun k => g (ix1 k))) (fun k q => w (ix2 k q)) q := by
  rw [heads_apply, result_apply]
  rfl

/-- The reference's inputs of the state space at an entry. -/
theorem rest_result (r : Fin 8192) (q : Fin 1024) :
    rest (result xh xt g w) (ix2 r q)
      = Rows.lin (Swiglu.norm (Rows.two xh xt r) (fun k => g (ix1 k))) (fun k q => w (ix2 k q)) ⟨3072 + q.val, by omega⟩ := by
  rw [rest_apply, result_apply]

end Cert.Reference4Ideal.Entry

end
-- ==== Proof.InProj.lean ====
/-
  The input projection and its reference give the same two arrays.
-/
module

public import proofs.«01_k».proof.Defs
public import proofs.«01_k».proof.Proof.InProjBlocks
public import proofs.«01_k».proof.Proof.InProjReference

@[expose] public section

noncomputable section

namespace Cert.InProj

open Cert Idealize.ShloMosaic Idealize.ShloMosaic.TcCoe Idealize.SL.Sem

variable (m : (ℓ : Loc Kernel4Ideal.nD Kernel4Ideal.τ Kernel4Ideal.sig) → Buf (Elt Ideal) ℓ) (c : Dev Kernel4Ideal.nD)

/-- The reference's queries, keys and values, on the kernel's arguments, are the array the kernel leaves. -/
theorem heads_eq :
    (Reference4Ideal.Entry.heads (Reference4Ideal.Entry.result (Kernel4Ideal.In.head m c) (Kernel4Ideal.In.tail m c)
      (shapeCast Kernel4Ideal.S2048 (m ((c.tc : Thread Kernel4Ideal.nD Kernel4Ideal.τ).loc Kernel4Ideal.main_arg2)) Kernel4Ideal.Gen.shapeCasts_S1x2048_S2048) (Kernel4Ideal.In.W m c))
      : FVec Ideal Kernel4Ideal.S8192x3072 .bf16) = (Kernel4Ideal.Gen.dats m 0 c).arrAt 4 Kernel4Ideal.cfg0.N := by
  funext y
  obtain ⟨r, q, rfl⟩ : ∃ (r : Fin 8192) (q : Fin 3072), y = ix2 r q := ⟨y 0, y 1, (ix2_eta y).symm⟩
  exact (Reference4Ideal.Entry.heads_result _ _ _ _ r q).trans (Kernel4Ideal.In.array4_apply m c r q).symm

/-- The reference's inputs of the state space, on the kernel's arguments, are the array the kernel leaves. -/
theorem rest_eq :
    (Reference4Ideal.Entry.rest (Reference4Ideal.Entry.result (Kernel4Ideal.In.head m c) (Kernel4Ideal.In.tail m c)
      (shapeCast Kernel4Ideal.S2048 (m ((c.tc : Thread Kernel4Ideal.nD Kernel4Ideal.τ).loc Kernel4Ideal.main_arg2)) Kernel4Ideal.Gen.shapeCasts_S1x2048_S2048) (Kernel4Ideal.In.W m c))
      : FVec Ideal Kernel4Ideal.S8192x1024 .f32) = (Kernel4Ideal.Gen.dats m 0 c).arrAt 5 Kernel4Ideal.cfg0.N := by
  funext y
  obtain ⟨r, q, rfl⟩ : ∃ (r : Fin 8192) (q : Fin 1024), y = ix2 r q := ⟨y 0, y 1, (ix2_eta y).symm⟩
  exact (Reference4Ideal.Entry.rest_result _ _ _ _ r q).trans (Kernel4Ideal.In.array5_apply m c r q).symm

omit m c in
/-- Kernel and reference compute the same function over the extended reals. -/
theorem algebraic : algebraic_Kernel4Ideal_Reference4Ideal := by
  intro m ρ m' ρ' _ hagree
  refine ⟨_, _, Kernel4Ideal.Value.run_blocks (F := Ideal) m ρ, ?_⟩
  refine (θ_run Reference4Ideal.defs _ _).mono (fun _ h c => ⟨?_, ?_, (h c).2.2⟩) (Reference4Ideal.Value.run (F := Ideal) m' ρ')
  · obtain ⟨h0, h1, h2, h3⟩ := hagree c
    refine (h c).1.trans (Eq.trans ?_ (heads_eq m c))
    rw [h0, h1, h2, h3]
    rfl
  · obtain ⟨h0, h1, h2, h3⟩ := hagree c
    refine (h c).2.1.trans (Eq.trans ?_ (rest_eq m c))
    rw [h0, h1, h2, h3]
    rfl

end Cert.InProj

end
-- ==== Proof.OutProjBody.lean ====
/-
  What the output projection's body stores, entry by entry.
-/
module

public import proofs.«01_k».proof.Proof.Rows
public import proofs.«01_k».proof.Proof.Gen.Kernel5Ideal.Frame
public import Idealize.ShloMosaic.Lib.Pipeline.Value
public import Idealize.ShloMosaic.Lib.Tactic
public import Idealize.ShloMosaic.Lib.Pointwise

@[expose] public section

set_option maxRecDepth 16384

noncomputable section

namespace Cert.Kernel5Ideal.Out

open Cert Cert.Kernel5Ideal Cert.Kernel5Ideal.Gen Idealize.ShloMosaic Idealize.ShloMosaic.TcCoe Idealize.SL.Sem
open scoped BigOperators

/-- The zero offset, spelt two ways. -/
theorem hz : (![0, 0] : Fin 2 → Nat) = fun _ => 0 := funext fun a => by fin_cases a <;> rfl

/-- The block of one step at an entry: which of the two residual blocks is read depends on the step. -/
theorem out_apply (i : grid0.Coords) (x0 : Vec Ideal S512x1024 .bf16) (x1 : Vec Ideal S512x1024 .f32) (x2 x3 : Vec Ideal S1024x2048 .bf16)
    (x4 x5 : Vec Ideal S512x2048 .f32) (x6 : Vec Ideal S1x2048 .f32) (p : Fin 512) (q : Fin 2048) :
    out0_7 (F := Ideal) i x0 x1 x2 x3 x4 x5 x6 (ix2 p q)
      = Rows.out (fun k => Scalar.select (Scalar.cmpi .slt (BitVec.ofNat 32 (i 0).val) 2#32) (x4 (ix2 p k)) (x5 (ix2 p k)))
          (fun k => (∑ j : Fin 1024, x0 (ix2 p j) * x2 (ix2 j k)) + ∑ j : Fin 1024, x1 (ix2 p j) * x3 (ix2 j k))
          (fun k => x6 (ix2 0 k)) q := by
  unfold out0_7
  rw [View.canon_unit_zero hz]
  simp only [View.ld_unit_zero (S := S512x1024) hz, View.ld_unit_zero (S := S512x2048) hz, View.ld_unit_zero (S := S1024x2048) hz, View.ld_unit_zero (S := S1x2048) hz]
  unfold Rows.out Swiglu.scale
  have hs : ∀ b : BitVec 1, (Scalar.select b x4 x5 : Vec Ideal S512x2048 .f32) (ix2 p q) = Scalar.select b (x4 (ix2 p q)) (x5 (ix2 p q)) := by
    intro b
    unfold Scalar.select
    split <;> rfl
  unfold k0_pay1
  dsimp only
  rw [addf_apply, hs]
  pointwise

end Cert.Kernel5Ideal.Out

end
-- ==== Proof.OutProjBlocks.lean ====
/-
  What the output projection's windows hold at a grid point, as entries of the arrays the call is given, and the array
  the call leaves.
-/
module

public import proofs.«01_k».proof.Proof.OutProjBody
public import proofs.«01_k».proof.Proof.Gen.Kernel5Ideal.Value

@[expose] public section

set_option maxRecDepth 16384

noncomputable section

namespace Cert.Kernel5Ideal.Out

open Cert Cert.Kernel5Ideal Cert.Kernel5Ideal.Gen Idealize.ShloMosaic Idealize.ShloMosaic.TcCoe Idealize.SL.Sem
open scoped BigOperators

variable (m : (ℓ : Loc nD τ sig) → Buf (Elt Ideal) ℓ) (c : Dev nD)

/-- The attention's rows. -/
def A : Vec Ideal S8192x1024 .bf16 := m ((c : Thread nD τ).loc main_arg0)
/-- The state space's rows. -/
def S : Vec Ideal S8192x1024 .f32 := m ((c : Thread nD τ).loc main_arg1)
/-- The weights. -/
def W : Vec Ideal S2048x2048 .f32 := shapeCast S2048x2048 (m ((c : Thread nD τ).loc main_arg2)) shapeCasts_S1x2048x2048_S2048x2048
/-- The first 1024 residual rows. -/
def head : Vec Ideal S1024x2048 .f32 := m ((c : Thread nD τ).loc main_arg3)
/-- The other residual rows. -/
def tail : Vec Ideal S7168x2048 .f32 := m ((c : Thread nD τ).loc main_arg4)
/-- The gain. -/
def gain (k : Fin 2048) : EReal := (shapeCast S2048 (m ((c : Thread nD τ).loc main_arg5)) shapeCasts_S1x2048_S2048 : Vec Ideal S2048 .f32) (ix1 k)

/-- The cast of the weights changes nothing. -/
theorem V_v1 (y : S2048x2048.Idx) : V m c main_v1 y = W m c y := rfl
/-- The gain, laid out as a row. -/
theorem V_v3 (k : Fin 2048) : (V m c main_v3 : Vec Ideal S1x2048 .f32) (ix2 0 k) = gain m c k := by
  show (shapeCast S1x2048 (shapeCast S2048 (m ((c : Thread nD τ).loc main_arg5)) shapeCasts_S1x2048_S2048 : Vec Ideal S2048 .f32) shapeCasts_S2048_S1x2048 : Vec Ideal S1x2048 .f32) (ix2 0 k) = gain m c k
  unfold gain
  pointwise

/-- The attention's window moves with the step. -/
theorem index_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The state space's window moves with the step. -/
theorem index_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The upper half of the weights stays. -/
theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The lower half of the weights stays. -/
theorem index_3 : ∀ t : Fin cfg0.N, win0_3.index t (0 : Fin 2) = 1 ∧ win0_3.index t (1 : Fin 2) = 0 :=
  (by decide +kernel : ∀ t : Fin grid0.N, win0_3.index t (0 : Fin 2) = 1 ∧ win0_3.index t (1 : Fin 2) = 0)
/-- The window over the first residual rows stops at its second block. -/
theorem index_4 : ∀ t : Fin cfg0.N, win0_4.index t (0 : Fin 2) = min t.val 1 ∧ win0_4.index t (1 : Fin 2) = 0 :=
  (by decide +kernel : ∀ t : Fin grid0.N, win0_4.index t (0 : Fin 2) = min t.val 1 ∧ win0_4.index t (1 : Fin 2) = 0)
/-- The window over the other residual rows starts two steps late. -/
theorem index_5 : ∀ t : Fin cfg0.N, win0_5.index t (0 : Fin 2) = t.val - 2 ∧ win0_5.index t (1 : Fin 2) = 0 :=
  (by decide +kernel : ∀ t : Fin grid0.N, win0_5.index t (0 : Fin 2) = t.val - 2 ∧ win0_5.index t (1 : Fin 2) = 0)
/-- The gain's window stays. -/
theorem index_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- The result's window moves with the step. -/
theorem index_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
/-- Every step writes its block back. -/
theorem flush_7 : ∀ t : Fin cfg0.N, (cfg0.win 7).flush t = true :=
  (by decide +kernel : ∀ t : Fin grid0.N, (cfg0.win 7).flush t = true)
/-- The first two steps take the first residual rows. -/
theorem early : ∀ t : Fin cfg0.N, Scalar.cmpi .slt (BitVec.ofNat 32 ((grid0.coords t) 0).val) 2#32 = if t.val < 2 then 1 else 0 :=
  (by decide +kernel : ∀ t : Fin grid0.N, Scalar.cmpi .slt (BitVec.ofNat 32 ((grid0.coords t) 0).val) 2#32 = if t.val < 2 then 1 else 0)

/-- The attention's block. -/
theorem blk_0 (t : Fin cfg0.N) (p : Fin 512) (k : Fin 1024) (r : Fin 8192) (hr : r.val = t.val * 512 + p.val) :
    iblk m c 0 t (ix2 p k) = A m c (ix2 r k) := by
  unfold iblk
  rw [View.read_apply]
  show V m c main_arg0 _ = A m c _
  rw [V_main_arg0]
  unfold A
  congr 1
  funext a
  apply Fin.ext
  match a with
  | ⟨0, _⟩ => show win0_0.index t 0 * 512 + 1 * p.val = r.val; rw [(index_0 t).1]; omega
  | ⟨1, _⟩ => show win0_0.index t 1 * 1024 + 1 * k.val = k.val; rw [(index_0 t).2]; omega

/-- The state space's block. -/
theorem blk_1 (t : Fin cfg0.N) (p : Fin 512) (k : Fin 1024) (r : Fin 8192) (hr : r.val = t.val * 512 + p.val) :
    iblk m c 1 t (ix2 p k) = S m c (ix2 r k) := by
  unfold iblk
  rw [View.read_apply]
  show V m c main_arg1 _ = S m c _
  rw [V_main_arg1]
  unfold S
  congr 1
  funext a
  apply Fin.ext
  match a with
  | ⟨0, _⟩ => show win0_1.index t 0 * 512 + 1 * p.val = r.val; rw [(index_1 t).1]; omega
  | ⟨1, _⟩ => show win0_1.index t 1 * 1024 + 1 * k.val = k.val; rw [(index_1 t).2]; omega

/-- The upper half of the weights. -/
theorem blk_2 (t : Fin cfg0.N) (j : Fin 1024) (k : Fin 2048) :
    iblk m c 2 t (ix2 j k) = W m c (ix2 ⟨j.val, by omega⟩ k) := by
  unfold iblk
  rw [View.read_apply]
  show V m c main_v1 _ = W m c _
  rw [V_v1]
  congr 1
  funext a
  apply Fin.ext
  match a with
  | ⟨0, _⟩ => show win0_2.index t 0 * 1024 + 1 * j.val = j.val; rw [(index_2 t).1]; omega
  | ⟨1, _⟩ => show win0_2.index t 1 * 2048 + 1 * k.val = k.val; rw [(index_2 t).2]; omega

/-- The lower half of the weights. -/
theorem blk_3 (t : Fin cfg0.N) (j : Fin 1024) (k : Fin 2048) :
    iblk m c 3 t (ix2 j k) = W m c (ix2 ⟨1024 + j.val, by omega⟩ k) := by
  unfold iblk
  rw [View.read_apply]
  show V m c main_v1 _ = W m c _
  rw [V_v1]
  congr 1
  funext a
  apply Fin.ext
  match a with
  | ⟨0, _⟩ => show win0_3.index t 0 * 1024 + 1 * j.val = 1024 + j.val; rw [(index_3 t).1]; omega
  | ⟨1, _⟩ => show win0_3.index t 1 * 2048 + 1 * k.val = k.val; rw [(index_3 t).2]; omega

/-- The block of the first residual rows, in the first two steps. -/
theorem blk_4 (t : Fin cfg0.N) (ht : t.val < 2) (p : Fin 512) (k : Fin 2048) (r : Fin 1024) (hr : r.val = t.val * 512 + p.val) :
    iblk m c 4 t (ix2 p k) = head m c (ix2 r k) := by
  unfold iblk
  rw [View.read_apply]
  show V m c main_arg3 _ = head m c _
  rw [V_main_arg3]
  unfold head
  congr 1
  funext a
  apply Fin.ext
  match a with
  | ⟨0, _⟩ => show win0_4.index t 0 * 512 + 1 * p.val = r.val; rw [(index_4 t).1]; omega
  | ⟨1, _⟩ => show win0_4.index t 1 * 2048 + 1 * k.val = k.val; rw [(index_4 t).2]; omega

/-- The block of the other residual rows, from the third step on. -/
theorem blk_5 (t : Fin cfg0.N) (ht : ¬ t.val < 2) (p : Fin 512) (k : Fin 2048) (r : Fin 7168) (hr : r.val + 1024 = t.val * 512 + p.val) :
    iblk m c 5 t (ix2 p k) = tail m c (ix2 r k) := by
  unfold iblk
  rw [View.read_apply]
  show V m c main_arg4 _ = tail m c _
  rw [V_main_arg4]
  unfold tail
  congr 1
  funext a
  apply Fin.ext
  match a with
  | ⟨0, _⟩ => show win0_5.index t 0 * 512 + 1 * p.val = r.val; rw [(index_5 t).1]; omega
  | ⟨1, _⟩ => show win0_5.index t 1 * 2048 + 1 * k.val = k.val; rw [(index_5 t).2]; omega

/-- The gain's block. -/
theorem blk_6 (t : Fin cfg0.N) (k : Fin 2048) : iblk m c 6 t (ix2 0 k) = gain m c k := by
  rw [← V_v3]
  unfold iblk
  rw [View.read_apply]
  show V m c main_v3 _ = V m c main_v3 _
  congr 1
  funext a
  apply Fin.ext
  match a with
  | ⟨0, _⟩ => show win0_6.index t 0 * 1 + 1 * 0 = 0; rw [(index_6 t).1]
  | ⟨1, _⟩ => show win0_6.index t 1 * 2048 + 1 * k.val = k.val; rw [(index_6 t).2]; omega

/-- The residual row a step adds to. -/
theorem residual (t : Fin cfg0.N) (p : Fin 512) (k : Fin 2048) (r : Fin 8192) (hr : r.val = t.val * 512 + p.val) :
    (Scalar.select (Scalar.cmpi .slt (BitVec.ofNat 32 ((grid0.coords t) 0).val) 2#32) (iblk m c 4 t (ix2 p k)) (iblk m c 5 t (ix2 p k)) : EReal)
      = Rows.two (head m c) (tail m c) r k := by
  rw [early t]
  unfold Rows.two Scalar.select
  by_cases h : t.val < 2
  · rw [if_pos h, if_pos rfl, dif_pos (by omega)]
    exact blk_4 m c t h p k ⟨r.val, by omega⟩ hr
  · rw [if_neg h, if_neg (by decide), dif_neg (by omega)]
    exact blk_5 m c t h p k ⟨r.val - 1024, by omega⟩ (by simp only; omega)

/-- A row of the result. -/
def row (r : Fin 8192) (q : Fin 2048) : EReal :=
  Rows.out (Rows.two (head m c) (tail m c) r)
    (Rows.mixed (fun j => A m c (ix2 r j)) (fun j => S m c (ix2 r j)) (fun j k => W m c (ix2 j k))) (gain m c) q

/-- The array the call leaves, at an entry. -/
theorem array_apply (r : Fin 8192) (q : Fin 2048) : (dats m 0 c).arrAt 7 cfg0.N (ix2 r q) = row m c r q := by
  have hN : r.val / 512 < cfg0.N := by
    show r.val / 512 < 16
    omega
  have hb := congrFun (Value.blocks7 m c ⟨r.val / 512, hN⟩ (flush_7 _)) (ix2 ⟨r.val % 512, Nat.mod_lt _ (by decide)⟩ q)
  rw [View.read_apply] at hb
  have he : ((cfg0.win 7).blk ⟨r.val / 512, hN⟩).view.emb (ix2 ⟨r.val % 512, Nat.mod_lt _ (by decide)⟩ q) = ix2 r q := by
    funext a
    apply Fin.ext
    match a with
    | ⟨0, _⟩ => show win0_7.index ⟨r.val / 512, hN⟩ 0 * 512 + 1 * (r.val % 512) = r.val; rw [(index_7 _).1]; simp only; omega
    | ⟨1, _⟩ => show win0_7.index ⟨r.val / 512, hN⟩ 1 * 2048 + 1 * q.val = q.val; rw [(index_7 _).2]; omega
  rw [he] at hb
  refine hb.trans ?_
  rw [Value.flushed7]
  show out0_7 (F := Ideal) (grid0.coords _) _ _ _ _ _ _ _ (ix2 ⟨r.val % 512, Nat.mod_lt _ (by decide)⟩ q) = _
  rw [out_apply]
  have hr : r.val = (⟨r.val / 512, hN⟩ : Fin cfg0.N).val * 512 + (⟨r.val % 512, Nat.mod_lt _ (by decide)⟩ : Fin 512).val := by
    simp only
    omega
  have hx := funext fun k => residual m c ⟨r.val / 512, hN⟩ ⟨r.val % 512, Nat.mod_lt _ (by decide)⟩ k r hr
  have h0 := fun k => blk_0 m c ⟨r.val / 512, hN⟩ ⟨r.val % 512, Nat.mod_lt _ (by decide)⟩ k r hr
  have h1 := fun k => blk_1 m c ⟨r.val / 512, hN⟩ ⟨r.val % 512, Nat.mod_lt _ (by decide)⟩ k r hr
  have h6 := funext fun k => blk_6 m c ⟨r.val / 512, hN⟩ k
  rw [hx, h6]
  unfold row
  congr 1
  funext k
  unfold Rows.mixed
  simp only [h0, h1, blk_2, blk_3]

end Cert.Kernel5Ideal.Out

end
-- ==== Proof.OutProjReference.lean ====
/-
  The reference of the output projection, entry by entry.
-/
module

public import proofs.«01_k».proof.Proof.Rows
public import proofs.«01_k».proof.Proof.Gen.Reference5Ideal.Run
public import Idealize.ShloMosaic.Lib.Pipeline.Value
public import Idealize.ShloMosaic.Lib.Pointwise

@[expose] public section

noncomputable section

namespace Cert.Reference5Ideal.Entry

open Cert Cert.Reference5Ideal Cert.Reference5Ideal.Gen Idealize.ShloMosaic Idealize.ShloMosaic.TcCoe Idealize.SL.Sem
open scoped BigOperators

/-- The residual rows, one array below the other. -/
def rows (xh : FVec Ideal S1024x2048 .f32) (xt : FVec Ideal S7168x2048 .f32) : FVec Ideal S8192x2048 .f32 :=
  concatenate S8192x2048 0 [⟨S1024x2048, xh⟩, ⟨S7168x2048, xt⟩] concatenates_S1024x2048_S7168x2048_S8192x2048_d0

/-- Attention and state space side by side. -/
def both (a : FVec Ideal S8192x1024 .bf16) (s : FVec Ideal S8192x1024 .f32) : FVec Ideal S8192x2048 .f32 :=
  concatenate S8192x2048 1 [⟨S8192x1024, (extf .f32 a bitsLt_bf16_f32 : FVec Ideal S8192x1024 .f32)⟩, ⟨S8192x1024, s⟩] concatenates_S8192x1024_S8192x1024_S8192x2048_d1

/-- Their product with the weights. -/
def prod (y : FVec Ideal S8192x2048 .f32) (w : FVec Ideal S2048x2048 .f32) : FVec Ideal S8192x2048 .f32 :=
  Host.dotGeneral dot_S8192x2048_S2048x2048_S8192x2048_1_0_0_1_n_n none y w

/-- The root-mean-square normalisation of every row, with a gain. -/
def rms (x : FVec Ideal S8192x2048 .f32) (g : FVec Ideal S2048 .f32) : FVec Ideal S8192x2048 .f32 :=
  mulf (mulf x (broadcastInDim S8192x2048 ![0, 1] bcast_S8192x1_S8192x2048_0_1
    (Host.rsqrt (addf (Host.divf (broadcastInDim S8192x1 ![0] bcast_S8192_S8192x1_0
        (Host.reduceAdd (mulf x x) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The residual rows at an entry. -/
theorem rows_apply (xh : FVec Ideal S1024x2048 .f32) (xt : FVec Ideal S7168x2048 .f32) (r : Fin 8192) (k : Fin 2048) :
    rows xh xt (ix2 r k) = Rows.two xh xt r k := by
  unfold rows Rows.two
  pointwise

/-- The left half of the joined rows. -/
theorem both_left (a : FVec Ideal S8192x1024 .bf16) (s : FVec Ideal S8192x1024 .f32) (r : Fin 8192) (j : Fin 1024) :
    both a s (ix2 r ⟨j.val, by omega⟩) = a (ix2 r j) := by
  unfold both
  pointwise

/-- The right half of the joined rows. -/
theorem both_right (a : FVec Ideal S8192x1024 .bf16) (s : FVec Ideal S8192x1024 .f32) (r : Fin 8192) (j : Fin 1024) :
    both a s (ix2 r ⟨1024 + j.val, by omega⟩) = s (ix2 r j) := by
  unfold both
  pointwise

/-- The product at an entry: the two halves' sums. -/
theorem prod_apply (a : FVec Ideal S8192x1024 .bf16) (s : FVec Ideal S8192x1024 .f32) (w : FVec Ideal S2048x2048 .f32) (r : Fin 8192) (q : Fin 2048) :
    prod (both a s) w (ix2 r q) = Rows.mixed (fun j => a (ix2 r j)) (fun j => s (ix2 r j)) (fun j k => w (ix2 j k)) q := by
  have e : prod (both a s) w (ix2 r q) = ∑ k : Fin 2048, both a s (ix2 r k) * w (ix2 k q) := by
    unfold prod
    pointwise
  rw [e, Fin.sum_univ_two_halves 1024 1024 rfl]
  unfold Rows.mixed
  simp only [both_left, both_right]

/-- The normalisation at an entry. -/
theorem rms_apply (x : FVec Ideal S8192x2048 .f32) (g : FVec Ideal S2048 .f32) (r : Fin 8192) (k : Fin 2048) :
    rms x g (ix2 r k) = Swiglu.norm (fun k => x (ix2 r k)) (fun k => g (ix1 k)) k := by
  unfold rms Swiglu.norm Swiglu.scale
  pointwise

/-- The reference's result, in the steps above. -/
def result (a : FVec Ideal S8192x1024 .bf16) (s : FVec Ideal S8192x1024 .f32) (w : FVec Ideal S2048x2048 .f32)
    (xh : FVec Ideal S1024x2048 .f32) (xt : FVec Ideal S7168x2048 .f32) (g : FVec Ideal S2048 .f32) : FVec Ideal S8192x2048 .f32 :=
  addf (rows xh xt) (rms (prod (both a s) w) g)

/-- The reference's result at an entry. -/
theorem result_apply (a : FVec Ideal S8192x1024 .bf16) (s : FVec Ideal S8192x1024 .f32) (w : FVec Ideal S2048x2048 .f32)
    (xh : FVec Ideal S1024x2048 .f32) (xt : FVec Ideal S7168x2048 .f32) (g : FVec Ideal S2048 .f32) (r : Fin 8192) (q : Fin 2048) :
    result a s w xh xt g (ix2 r q)
      = Rows.out (Rows.two xh xt r) (Rows.mixed (fun j => a (ix2 r j)) (fun j => s (ix2 r j)) (fun j k => w (ix2 j k))) (fun k => g (ix1 k)) q := by
  unfold result
  rw [addf_apply, rows_apply, rms_apply]
  simp only [prod_apply]
  rfl

end Cert.Reference5Ideal.Entry

end
-- ==== Proof.OutProj.lean ====
/-
  The output projection and its reference give the same array.
-/
module

public import proofs.«01_k».proof.Defs
public import proofs.«01_k».proof.Proof.OutProjBlocks
public import proofs.«01_k».proof.Proof.OutProjReference

@[expose] public section

noncomputable section

namespace Cert.OutProj

open Cert Idealize.ShloMosaic Idealize.ShloMosaic.TcCoe Idealize.SL.Sem

/-- The reference's array, on the kernel's arguments, is the array the kernel leaves. -/
theorem values_eq (m : (ℓ : Loc Kernel5Ideal.nD Kernel5Ideal.τ Kernel5Ideal.sig) → Buf (Elt Ideal) ℓ) (c : Dev Kernel5Ideal.nD) :
    (Reference5Ideal.Entry.result (Kernel5Ideal.Out.A m c) (Kernel5Ideal.Out.S m c) (Kernel5Ideal.Out.W m c) (Kernel5Ideal.Out.head m c)
      (Kernel5Ideal.Out.tail m c)
      (shapeCast Kernel5Ideal.S2048 (m ((c.tc : Thread Kernel5Ideal.nD Kernel5Ideal.τ).loc Kernel5Ideal.main_arg5)) Kernel5Ideal.Gen.shapeCasts_S1x2048_S2048)
      : FVec Ideal Kernel5Ideal.S8192x2048 .f32)
      = (Kernel5Ideal.Gen.dats m 0 c).arrAt 7 Kernel5Ideal.cfg0.N := by
  funext y
  obtain ⟨r, q, rfl⟩ : ∃ (r : Fin 8192) (q : Fin 2048), y = ix2 r q := ⟨y 0, y 1, (ix2_eta y).symm⟩
  exact (Reference5Ideal.Entry.result_apply _ _ _ _ _ _ r q).trans (Kernel5Ideal.Out.array_apply m c r q).symm

/-- Kernel and reference compute the same function over the extended reals. -/
theorem algebraic : algebraic_Kernel5Ideal_Reference5Ideal := by
  intro m ρ m' ρ' _ hagree
  refine ⟨_, Kernel5Ideal.Value.run_blocks (F := Ideal) m ρ, ?_⟩
  refine (θ_run Reference5Ideal.defs _ _).mono (fun _ h c => ⟨?_, (h c).2⟩) (Reference5Ideal.Value.run (F := Ideal) m' ρ')
  obtain ⟨h0, h1, h2, h3, h4, h5⟩ := hagree c
  refine (h c).1.trans (Eq.trans ?_ (values_eq m c))
  rw [h0, h1, h2, h3, h4, h5]
  rfl

end Cert.OutProj

end
-- ==== Proof.lean ====
/-
  The certificate: every program's frame, and for each call the equation of kernel and reference.
-/
module

public import proofs.«01_k».proof.Defs
public import proofs.«01_k».proof.Proof.Gen.Kernel.Frame
public import proofs.«01_k».proof.Proof.Gen.Kernel2.Frame
public import proofs.«01_k».proof.Proof.Gen.Kernel4.Frame
public import proofs.«01_k».proof.Proof.Gen.Kernel5.Frame
public import proofs.«01_k».proof.Proof.Ffn2
public import proofs.«01_k».proof.Proof.Ffn1
public import proofs.«01_k».proof.Proof.Head
public import proofs.«01_k».proof.Proof.HeadKernel
public import proofs.«01_k».proof.Proof.InProj
public import proofs.«01_k».proof.Proof.OutProj
public import Idealize.ShloMosaic.Adequacy
public import Idealize.ShloMosaic.Init
public import Idealize.ShloMosaic.Lib.Quiescent

@[expose] public section

noncomputable section

namespace Cert.Proof

open Idealize.ShloMosaic Idealize.SL.Sem

/-- The reference of the second feed-forward call runs through and changes no argument. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the first feed-forward call runs through and changes no argument. -/
theorem frame_reference2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of the first 1024 rows of the first feed-forward block runs through and changes no argument. -/
theorem frame_reference3 : quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- The reference of the input projection runs through and changes no argument. -/
theorem frame_reference4 : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The reference of the output projection runs through and changes no argument. -/
theorem frame_reference5 : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  Cert.Head.frame_kernel, fun m ρ _ => Cert.Kernel3Ideal.Head.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  (trivial : preserves_Kernel_KernelIdeal), Cert.Ffn2.algebraic,
  (trivial : preserves_Kernel2_Kernel2Ideal), Cert.Ffn1.algebraic,
  (trivial : preserves_Kernel3_Kernel3Ideal), Cert.Head.algebraic,
  (trivial : preserves_Kernel4_Kernel4Ideal), Cert.InProj.algebraic,
  (trivial : preserves_Kernel5_Kernel5Ideal), Cert.OutProj.algebraic⟩

end Cert.Proof

end
